-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x288x1024 : Shape := ⟨3, ![16, 288, 1024]⟩
abbrev S1024x256 : Shape := ⟨2, ![1024, 256]⟩
abbrev S1024 : Shape := ⟨1, ![1024]⟩
abbrev S16x32x1024 : Shape := ⟨3, ![16, 32, 1024]⟩
abbrev S16x256x1024 : Shape := ⟨3, ![16, 256, 1024]⟩
abbrev S_ : Shape := ⟨0, ![]⟩

class Facts : Prop where
  slices_S16x288x1024_S16x256x1024_0_0_0 : S16x288x1024.Slices ![0, 0, 0] S16x256x1024
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S16x288x1024 .f32) (main_arg1 : FVec F S1024x256 .f32) (main_arg2 : FVec F S1024 .f32) (main_arg3 : FVec F S16x32x1024 .f32) : IVec S_ 1 :=
  let main_v0 : FVec F S16x256x1024 .f32 := (extractStridedSlice S16x256x1024 ![0, 0, 0] · slices_S16x288x1024_S16x256x1024_0_0_0) main_arg0
  let main_v1 : FVec F S16x256x1024 .f32 := Host.absf main_v0
  let main_cst : FVec F S_ .f32 := constant S_ .f32 0x7F800000#32
  let main_v2 : FVec F S16x256x1024 .f32 := broadcastInDim S16x256x1024 ![] bcast_S_S16x256x1024 main_cst
  let main_v3 : IVec S16x256x1024 1 := cmpf .olt main_v1 main_v2
  let main_c : IVec S_ 1 := constantI S_ 1 1#1
  let main_v4 : IVec S_ 1 := (fun x v => Host.reduce IntOp.andi x v reducesTo_S16x256x1024_S_d0_1_2 h_S_) main_v3 main_c
  let main_v5 : FVec F S1024x256 .f32 := Host.absf main_arg1
  let main_cst_0 : FVec F S_ .f32 := constant S_ .f32 0x7F800000#32
  let main_v6 : FVec F S1024x256 .f32 := broadcastInDim S1024x256 ![] bcast_S_S1024x256 main_cst_0
  let main_v7 : IVec S1024x256 1 := cmpf .olt main_v5 main_v6
  let main_c_1 : IVec S_ 1 := constantI S_ 1 1#1
  let main_v8 : IVec S_ 1 := (fun x v => Host.reduce IntOp.andi x v reducesTo_S1024x256_S_d0_1 h_S_) main_v7 main_c_1
  let main_v9 : IVec S_ 1 := andi main_v4 main_v8
  main_v9
-- ==== Kernel.lean ====
abbrev S16x288x1024 : Shape := ⟨3, ![16, 288, 1024]⟩
abbrev S1024x256 : Shape := ⟨2, ![1024, 256]⟩
abbrev S1024 : Shape := ⟨1, ![1024]⟩
abbrev S16x32x1024 : Shape := ⟨3, ![16, 32, 1024]⟩
abbrev S16x3 : Shape := ⟨2, ![16, 3]⟩
abbrev S1024x1 : Shape := ⟨2, ![1024, 1]⟩
abbrev S16x33x1024 : Shape := ⟨3, ![16, 33, 1024]⟩
abbrev S1x288x1024 : Shape := ⟨3, ![1, 288, 1024]⟩
abbrev S1x32x1024 : Shape := ⟨3, ![1, 32, 1024]⟩
abbrev S1x33x1024 : Shape := ⟨3, ![1, 33, 1024]⟩
abbrev S1024x1024 : Shape := ⟨2, ![1024, 1024]⟩
abbrev S1x256x1024 : Shape := ⟨3, ![1, 256, 1024]⟩
abbrev S256x1024 : Shape := ⟨2, ![256, 1024]⟩
abbrev S32x1024 : Shape := ⟨2, ![32, 1024]⟩
abbrev S1x1024 : Shape := ⟨2, ![1, 1024]⟩
abbrev S1x1 : Shape := ⟨2, ![1, 1]⟩
abbrev S1x1x1024 : Shape := ⟨3, ![1, 1, 1024]⟩

abbrev nBuf : Space → Nat
  | .hbm => 8
  | .vmem => 14
  | .smem => 1
  | _ => 0

abbrev bufTy : (tb : Table) → Fin (tcTables nBuf tb) → BufTy
  | .hbm, ⟨0, _⟩ => ⟨S16x288x1024, .f32⟩
  | .hbm, ⟨1, _⟩ => ⟨S1024x256, .f32⟩
  | .hbm, ⟨2, _⟩ => ⟨S1024, .f32⟩
  | .hbm, ⟨3, _⟩ => ⟨S16x32x1024, .f32⟩
  | .hbm, ⟨4, _⟩ => ⟨S16x3, .i32⟩
  | .hbm, ⟨5, _⟩ => ⟨S1024x1, .f32⟩
  | .hbm, ⟨6, _⟩ => ⟨S16x288x1024, .f32⟩
  | .hbm, ⟨7, _⟩ => ⟨S16x33x1024, .i32⟩
  | .local _ .vmem, ⟨0, _⟩ => ⟨S1x288x1024, .f32⟩
  | .local _ .vmem, ⟨1, _⟩ => ⟨S1x288x1024, .f32⟩
  | .local _ .vmem, ⟨2, _⟩ => ⟨S1x32x1024, .f32⟩
  | .local _ .vmem, ⟨3, _⟩ => ⟨S1x32x1024, .f32⟩
  | .local _ .vmem, ⟨4, _⟩ => ⟨S1024x256, .f32⟩
  | .local _ .vmem, ⟨5, _⟩ => ⟨S1024x1, .f32⟩
  | .local _ .vmem, ⟨6, _⟩ => ⟨S1x288x1024, .f32⟩
  | .local _ .vmem, ⟨7, _⟩ => ⟨S1x288x1024, .f32⟩
  | .local _ .vmem, ⟨8, _⟩ => ⟨S1x33x1024, .i32⟩
  | .local _ .vmem, ⟨9, _⟩ => ⟨S1x33x1024, .i32⟩
  | .local _ .vmem, ⟨10, _⟩ => ⟨S1024x256, .f32⟩
  | .local _ .vmem, ⟨11, _⟩ => ⟨S1024x256, .f32⟩
  | .local _ .vmem, ⟨12, _⟩ => ⟨S1024x1, .f32⟩
  | .local _ .vmem, ⟨13, _⟩ => ⟨S1024x1024, .f32⟩
  | .local _ .smem, ⟨0, _⟩ => ⟨S16x3, .i32⟩
  | _, _ => ⟨S16x288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v27 : Index := Scalar.indexCast arg0
  let c0_15 : Index := 0#32
  ![v27.toNat, 0]
def k0_off2 (i : grid0.Coords) : Fin 2 → Nat :=
  let arg0 : BitVec 32 := BitVec.ofNat 32 (i 0).val
  let v48 : Index := Scalar.indexCast arg0
  let c1 : Index := 1#32
  ![v48.toNat, 1]
def k0_off3 (i : grid0.Coords) : Fin 2 → Nat :=
  let arg0 : BitVec 32 := BitVec.ofNat 32 (i 0).val
  let v51 : Index := Scalar.indexCast arg0
  let c2 : Index := 2#32
  ![v51.toNat, 2]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S16x3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x288x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x33x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x288x1024 : Shape := ⟨3, ![16, 288, 1024]⟩
abbrev S1024x256 : Shape := ⟨2, ![1024, 256]⟩
abbrev S1024 : Shape := ⟨1, ![1024]⟩
abbrev S16x32x1024 : Shape := ⟨3, ![16, 32, 1024]⟩
abbrev S16x1x1 : Shape := ⟨3, ![16, 1, 1]⟩
abbrev S16x256x1024 : Shape := ⟨3, ![16, 256, 1024]⟩
abbrev S_ : Shape := ⟨0, ![]⟩
abbrev S1024x1 : Shape := ⟨2, ![1024, 1]⟩
abbrev S16x1024x256 : Shape := ⟨3, ![16, 1024, 256]⟩
abbrev S16384x256 : Shape := ⟨2, ![16384, 256]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S256x1024 : Shape := ⟨2, ![256, 1024]⟩
abbrev S16x1x1024 : Shape := ⟨3, ![16, 1, 1024]⟩
abbrev S1 : Shape := ⟨1, ![1]⟩
abbrev S1x1 : Shape := ⟨2, ![1, 1]⟩
abbrev S16x33x1024 : Shape := ⟨3, ![16, 33, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16x288x1024, .f32⟩
  | .hbm, ⟨1, _⟩ => ⟨S1024x256, .f32⟩
  | .hbm, ⟨2, _⟩ => ⟨S1024, .f32⟩
  | .hbm, ⟨3, _⟩ => ⟨S16x32x1024, .f32⟩
  | .hbm, ⟨4, _⟩ => ⟨S16x1x1, .i1⟩
  | .hbm, ⟨5, _⟩ => ⟨S16x1x1, .i1⟩
  | .hbm, ⟨6, _⟩ => ⟨S16x1x1, .i1⟩
  | .hbm, ⟨7, _⟩ => ⟨S16x256x1024, .f32⟩
  | .hbm, ⟨8, _⟩ => ⟨S16x32x1024, .f32⟩
  | .hbm, ⟨9, _⟩ => ⟨S_, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024x256, .f32⟩
  | .hbm, ⟨15, _⟩ => ⟨S1024x256, .f32⟩
  | .hbm, ⟨16, _⟩ => ⟨S16x1024x256, .f32⟩
  | .hbm, ⟨17, _⟩ => ⟨S16384x256, .f32⟩
  | .hbm, ⟨18, _⟩ => ⟨S16384x256, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S1024x256, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S256x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .i32⟩
  | .hbm, ⟨41, _⟩ => ⟨S_, .f32⟩
  | .hbm, ⟨42, _⟩ => ⟨S_, .i32⟩
  | .hbm, ⟨43, _⟩ => ⟨S16384, .f32⟩
  | .hbm, ⟨44, _⟩ => ⟨S16384, .i32⟩
  | .hbm, ⟨45, _⟩ => ⟨S16x1x1024, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S1, .i32⟩
  | .hbm, ⟨55, _⟩ => ⟨S_, .i32⟩
  | .hbm, ⟨56, _⟩ => ⟨S16384x1, .i32⟩
  | .hbm, ⟨57, _⟩ => ⟨S16384x1, .i1⟩
  | .hbm, ⟨58, _⟩ => ⟨S1x1, .i32⟩
  | .hbm, ⟨59, _⟩ => ⟨S16384x1, .i32⟩
  | .hbm, ⟨60, _⟩ => ⟨S16384x1, .i1⟩
  | .hbm, ⟨61, _⟩ => ⟨S16384x1, .i1⟩
  | .hbm, ⟨62, _⟩ => ⟨S_, .i1⟩
  | .hbm, ⟨63, _⟩ => ⟨S16384, .i1⟩
  | .hbm, ⟨64, _⟩ => ⟨S16384x256, .f32⟩
  | .hbm, ⟨65, _⟩ => ⟨S16384x256, .i1⟩
  | .hbm, ⟨66, _⟩ => ⟨S_, .f32⟩
  | .hbm, ⟨67, _⟩ => ⟨S16384x256, .f32⟩
  | .hbm, ⟨68, _⟩ => ⟨S16384x256, .f32⟩
  | .hbm, ⟨69, _⟩ => ⟨S16x1024x256, .f32⟩
  | .hbm, ⟨70, _⟩ => ⟨S16x256x1024, .f32⟩
  | .hbm, ⟨71, _⟩ => ⟨S16x256x1024, .f32⟩
  | .hbm, ⟨72, _⟩ => ⟨S16x256x1024, .f32⟩
  | .hbm, ⟨73, _⟩ => ⟨S16x256x1024, .i1⟩
  | .hbm, ⟨74, _⟩ => ⟨S16x256x1024, .f32⟩
  | .hbm, ⟨75, _⟩ => ⟨S16x32x1024, .f32⟩
  | .hbm, ⟨76, _⟩ => ⟨S_, .f32⟩
  | .hbm, ⟨77, _⟩ => ⟨S16x32x1024, .f32⟩
  | .hbm, ⟨78, _⟩ => ⟨S16x32x1024, .f32⟩
  | .hbm, ⟨79, _⟩ => ⟨S16x32x1024, .f32⟩
  | .hbm, ⟨80, _⟩ => ⟨S16x32x1024, .f32⟩
  | .hbm, ⟨81, _⟩ => ⟨S16x32x1024, .f32⟩
  | .hbm, ⟨82, _⟩ => ⟨S16x32x1024, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x32x1024, .f32⟩
  | .hbm, ⟨87, _⟩ => ⟨S16x32x1024, .f32⟩
  | .hbm, ⟨88, _⟩ => ⟨S_, .f32⟩
  | .hbm, ⟨89, _⟩ => ⟨S16x32x1024, .f32⟩
  | .hbm, ⟨90, _⟩ => ⟨S16x32x1024, .f32⟩
  | .hbm, ⟨91, _⟩ => ⟨S16x32x1024, .i1⟩
  | .hbm, ⟨92, _⟩ => ⟨S16x32x1024, .f32⟩
  | .hbm, ⟨93, _⟩ => ⟨S16x32x1024, .i1⟩
  | .hbm, ⟨94, _⟩ => ⟨S16x32x1024, .f32⟩
  | .hbm, ⟨95, _⟩ => ⟨S_, .f32⟩
  | .hbm, ⟨96, _⟩ => ⟨S16x32x1024, .f32⟩
  | .hbm, ⟨97, _⟩ => ⟨S16x32x1024, .f32⟩
  | .hbm, ⟨98, _⟩ => ⟨S16x32x1024, .f32⟩
  | .hbm, ⟨99, _⟩ => ⟨S16x32x1024, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S16x32x1024, .i32⟩
  | .hbm, ⟨104, _⟩ => ⟨S16x32x1024, .i32⟩
  | .hbm, ⟨105, _⟩ => ⟨S_, .i32⟩
  | .hbm, ⟨106, _⟩ => ⟨S16x32x1024, .i32⟩
  | .hbm, ⟨107, _⟩ => ⟨S16x32x1024, .i32⟩
  | .hbm, ⟨108, _⟩ => ⟨S_, .f32⟩
  | .hbm, ⟨109, _⟩ => ⟨S16x32x1024, .f32⟩
  | .hbm, ⟨110, _⟩ => ⟨S16x32x1024, .f32⟩
  | .hbm, ⟨111, _⟩ => ⟨S16x288x1024, .f32⟩
  | .hbm, ⟨112, _⟩ => ⟨S16x33x1024, .i32⟩
  | _, _ => ⟨S16x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_call2_v0 : Ref sig .tc := ⟨.hbm, 40, rfl⟩
abbrev main_call2_cst : Ref sig .tc := ⟨.hbm, 41, rfl⟩
abbrev main_call2_c : Ref sig .tc := ⟨.hbm, 42, rfl⟩
abbrev main_call2_v1_0 : Ref sig .tc := ⟨.hbm, 43, rfl⟩
abbrev main_v24 : Ref sig .tc := ⟨.hbm, 44, rfl⟩
abbrev main_v25 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_call3_cst : Ref sig .tc := ⟨.hbm, 66, rfl⟩
abbrev main_call3_v15 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call4_v0 : Ref sig .tc := ⟨.hbm, 73, rfl⟩
abbrev main_v31 : Ref sig .tc := ⟨.hbm, 74, rfl⟩
abbrev main_v32 : Ref sig .tc := ⟨.hbm, 75, rfl⟩
abbrev main_cst_6 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_cst_8 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v39 : Ref sig .tc := ⟨.hbm, 90, rfl⟩
abbrev main_call7_v0 : Ref sig .tc := ⟨.hbm, 91, rfl⟩
abbrev main_v40 : Ref sig .tc := ⟨.hbm, 92, rfl⟩
abbrev main_call8_v0 : Ref sig .tc := ⟨.hbm, 93, rfl⟩
abbrev main_v41 : Ref sig .tc := ⟨.hbm, 94, rfl⟩
abbrev main_cst_9 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_c_10 : Ref sig .tc := ⟨.hbm, 100, rfl⟩
abbrev main_c_11 : Ref sig .tc := ⟨.hbm, 101, rfl⟩
abbrev main_call10_v0 : Ref sig .tc := ⟨.hbm, 102, rfl⟩
abbrev main_call10_v1 : Ref sig .tc := ⟨.hbm, 103, rfl⟩
abbrev main_call10_v2 : Ref sig .tc := ⟨.hbm, 104, rfl⟩
abbrev main_call10_v3 : Ref sig .tc := ⟨.hbm, 105, rfl⟩
abbrev main_call10_v4 : Ref sig .tc := ⟨.hbm, 106, rfl⟩
abbrev main_v46 : Ref sig .tc := ⟨.hbm, 107, rfl⟩
abbrev main_cst_12 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩

abbrev nD : Nat := 1
abbrev τ : Topo := Topo.v7x

variable {F : FTy → Type} [FloatOps F]
-- ==== Proof.KIBlock.lean ====
/- What the body leaves at one grid point, as a function of the blocks of the inputs, and the conditions of its
   conditionals. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point's block -/

/-- The rows 0 … 255 of a block of the first output: the semantic channels. -/
abbrev rU : Rect S1x288x1024 := Rect.unit (s := S1x288x1024) ![0, 0, 0] S1x256x1024.size inb_S1x288x1024_S1x256x1024_0_0_0
/-- The rows 256 … 287: the acoustic channels. -/
abbrev rL : Rect S1x288x1024 := Rect.unit (s := S1x288x1024) ![0, 256, 0] S1x32x1024.size inb_S1x288x1024_S1x32x1024_0_256_0
/-- Row 0 of a block of codes: the semantic codes. -/
abbrev rH : Rect S1x33x1024 := Rect.unit (s := S1x33x1024) ![0, 0, 0] S1x1x1024.size inb_S1x33x1024_S1x1x1024_0_0_0
/-- The rows 1 … 32 of a block of codes: the acoustic codes. -/
abbrev rT : Rect S1x33x1024 := Rect.unit (s := S1x33x1024) ![0, 1, 0] S1x32x1024.size inb_S1x33x1024_S1x32x1024_0_1_0

/-- The word of the mask table at a one-word box. -/
abbrev wordAt (x2 : Vec F S16x3 .i32) (off : Fin 2 → ℕ) (inb : ∀ a, off a + S1x1.size a ≤ S16x3.size a) : BitVec 32 :=
  View.ld x2 (Rect.unit (s := S16x3) off S1x1.size inb) (Shape.Idx.first (numel1_S1x1.symm ▸ Nat.one_pos))
/-- The mask word that says whether the semantic channels are quantized. -/
def mw1 (i : grid0.Coords) (x2 : Vec F S16x3 .i32) : BitVec 32 := wordAt x2 (k0_off1 i) (k0_off1_inb i)
/-- The mask word that says whether the acoustic channels are rounded. -/
def mw2 (i : grid0.Coords) (x2 : Vec F S16x3 .i32) : BitVec 32 := wordAt x2 (k0_off2 i) (k0_off2_inb i)
/-- The mask word that says whether noise is added to the acoustic channels. -/
def mw3 (i : grid0.Coords) (x2 : Vec F S16x3 .i32) : BitVec 32 := wordAt x2 (k0_off3 i) (k0_off3_inb i)

/-- What one grid point leaves in rows 0 … 255 of its block of the first output: by the mask word, the decoded
    codewords or the input. -/
def upper (i : grid0.Coords) (x0 : Vec F S1x288x1024 .f32) (x2 : Vec F S16x3 .i32) (x3 : Vec F S1024x256 .f32)
    (x4 : Vec F S1024x1 .f32) : FVec F S1x256x1024 .f32 :=
  if mw1 i x2 = 0#32 then k0_pay14 (k0_pay8 (View.ld x0 rU))
  else k0_pay13 (View.ld x0 rU) (k0_pay6 x3 x4) (k0_pay7 x3 x4) k0_pay3 (k0_pay5 x3 x4)

/-- What one grid point leaves in rows 256 … 287. -/
def lower (i : grid0.Coords) (x0 : Vec F S1x288x1024 .f32) (x1 : Vec F S1x32x1024 .f32) (x2 : Vec F S16x3 .i32) :
    FVec F S1x32x1024 .f32 :=
  k0_pay17 (k0_pay9 (View.ld x0 rL)) x1 (mw2 i x2) (mw3 i x2)

/-- What one grid point leaves in its block of the first output, from the blocks of the inputs. -/
def blockQ (i : grid0.Coords) (x0 : Vec F S1x288x1024 .f32) (x1 : Vec F S1x32x1024 .f32) (x2 : Vec F S16x3 .i32)
    (x3 : Vec F S1024x256 .f32) (x4 : Vec F S1024x1 .f32) : Vec F S1x288x1024 .f32 :=
  View.canon [(⟨rL, lower i x0 x1 x2⟩ : View.Piece (Elt F) S1x288x1024 .f32), ⟨rU, upper i x0 x2 x3 x4⟩]

/-- What one grid point leaves in its block of the second output, from the blocks of the inputs. -/
def blockC (i : grid0.Coords) (x0 : Vec F S1x288x1024 .f32) (x1 : Vec F S1x32x1024 .f32) (x2 : Vec F S16x3 .i32)
    (x3 : Vec F S1024x256 .f32) (x4 : Vec F S1024x1 .f32) : Vec F S1x33x1024 .i32 :=
  View.canon [(⟨rT, k0_pay2 (k0_pay16 (k0_pay9 (View.ld x0 rL)) x1 (mw2 i x2) (mw3 i x2))⟩ : View.Piece (Elt F) S1x33x1024 .i32),
    ⟨rH, k0_pay1 (k0_pay12 (View.ld x0 rU) (k0_pay6 x3 x4) (k0_pay7 x3 x4) k0_pay3)⟩]

/-- The two stores fill a block of the first output. -/
theorem coverQ (a : FVec F S1x32x1024 .f32) (b : FVec F S1x256x1024 .f32) (y : S1x288x1024.Idx) :
    ∃ p ∈ [(⟨rL, a⟩ : View.Piece (Elt F) S1x288x1024 .f32), ⟨rU, b⟩], y ∈ p.1.set :=
  View.cover_of_tiledBy _ ![1, 32, 1024] (by sl_kernel_rfl) y

/-- The two stores fill a block of the second output. -/
theorem coverC (a : IVec S1x32x1024 32) (b : IVec S1x1x1024 32) (y : S1x33x1024.Idx) :
    ∃ p ∈ [(⟨rT, a⟩ : View.Piece (Elt F) S1x33x1024 .i32), ⟨rH, b⟩], y ∈ p.1.set :=
  View.cover_of_tiledBy _ ![1, 1, 1024] (by sl_kernel_rfl) y

theorem off2 : (![0, 0] : Fin 2 → ℕ) = fun _ => 0 := by funext a; fin_cases a <;> rfl
theorem off3 : (![0, 0, 0] : Fin 3 → ℕ) = fun _ => 0 := by funext a; fin_cases a <;> rfl

/-- What ONE store through a whole buffer leaves there. -/
theorem read_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) : v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

/-! # The body's conditions -/

/-- The condition of the first conditional: the first grid point. -/
abbrev cond0 (i : grid0.Coords) : Prop := (Scalar.cmpi .ne (Scalar.extui (Scalar.cmpi .eq (BitVec.ofNat 32 (i 0).val) 0#32)) 0#32) = 1#1
/-- The condition of the second: a mask word is not zero. -/
abbrev cond1 (w : BitVec 32) : Prop := (Scalar.cmpi .ne (Scalar.extui (Scalar.cmpi .ne w 0#32)) 0#32) = 1#1
/-- The condition of the third: a mask word is zero. -/
abbrev cond2 (w : BitVec 32) : Prop :=
  (Scalar.cmpi .ne (Scalar.extui (Scalar.xori (Scalar.cmpi .ne w 0#32) 1#1)) 0#32) = 1#1

theorem hcond0 (t : Fin cfg0.N) : cond0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0, e0]
    word_cmp
   : ∀ t : Fin grid0.N, cond0 (grid0.coords t) ↔ t.val % 16 = 0) t

theorem ne_word (w : BitVec 32) : (Scalar.cmpi .ne w 0#32 = 1#1) ↔ w ≠ 0#32 := by
  by_cases h : w = 0#32
  · simp [Scalar.cmpi, IntOp.cmpi, h]
  · have e : (w != 0#32) = true := by simpa using h
    simp [Scalar.cmpi, IntOp.cmpi, h, e]

theorem bit_cases : ∀ b : BitVec 1, ((Scalar.cmpi .ne (Scalar.extui b : BitVec 32) 0#32) = 1#1 ↔ b = 1#1)
    ∧ ((Scalar.cmpi .ne (Scalar.extui (Scalar.xori b 1#1) : BitVec 32) 0#32) = 1#1 ↔ ¬ b = 1#1) := by decide

theorem hcond1 (w : BitVec 32) : cond1 w ↔ w ≠ 0#32 := ((bit_cases _).1).trans (ne_word w)
theorem hcond2 (w : BitVec 32) : cond2 w ↔ w = 0#32 := ((bit_cases _).2).trans ((not_congr (ne_word w)).trans not_not)

end Cert.KernelIdeal.Hand

end
-- ==== Proof.KIRunFirst.lean ====
/- The body at the first grid point. -/
module

public import proofs.«01_k».proof.Proof.KIBlock
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first grid point, the semantic channels quantized: the outputs' blocks are `blockQ` and `blockC`,
    and the scratch holds the codebook, its double negated, its squared norms and the row numbers. -/
theorem runFirstQ (c : Dev nD) (i : grid0.Coords) (arg1 : Memref sig .tc .vmem S1x288x1024 .f32) (harg1 : arg1.IsWhole) (arg2 : Memref sig .tc .vmem S1x32x1024 .f32) (harg2 : arg2.IsWhole) (arg3 : Memref sig .tc .smem S16x3 .i32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x288x1024 .f32) (harg6 : arg6.IsWhole) (arg7 : Memref sig .tc .vmem S1x33x1024 .i32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x1 .f32) (harg10 : arg10.IsWhole) (arg11 : Memref sig .tc .vmem S1024x1024 .f32) (harg11 : arg11.IsWhole) (hc0 : cond0 i)
    (x0 : Vec F S1x288x1024 .f32) (x1 : Vec F S1x32x1024 .f32) (x2 : Vec F S16x3 .i32) (x3 : Vec F S1024x256 .f32) (x4 : Vec F S1024x1 .f32) (hw : mw1 i x2 ≠ 0#32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockQ i x0 x1 x2 x3 x4) ∗ owns (c : Thread nD τ) arg7 fullShare (blockC i x0 x1 x2 x3 x4) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  have hc1 : cond1 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact (hcond1 _).mpr hw
  have hc2 : ¬ cond2 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact fun h => hw ((hcond2 _).mp h)
  simp only [cc0__main_body_eq_skeleton]; unfold cc0__main_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (coverQ _ _)).trans ?_
    (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt, blockQ, upper, lower, mw2, mw3, if_neg hw]
  isplitl [H6]
  · iexists _; isplitr; swap; · iexact H6
    ipureintro
    refine (View.read_writes_eq_canon _ _ _ (coverC _ _)).trans ?_
    (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt, blockC, mw2, mw3]
  isplitl [HS0]
  · iexists _; isplitr; swap; · iexact HS0
    ipureintro
    (try delta runFirstQ.sl.HS0_1); (try delta runFirstQ.sl.HS1_1); (try delta runFirstQ.sl.HS2_1); (try delta runFirstQ.sl.HS3_1)
    refine (read_whole _ _ off2 _ _).trans ?_
    (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  isplitl [HS1]
  · iexists _; isplitr; swap; · iexact HS1
    ipureintro
    (try delta runFirstQ.sl.HS0_1); (try delta runFirstQ.sl.HS1_1); (try delta runFirstQ.sl.HS2_1); (try delta runFirstQ.sl.HS3_1)
    refine (read_whole _ _ off2 _ _).trans ?_
    (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  isplitl [HS2]
  · iexists _; isplitr; swap; · iexact HS2
    ipureintro
    (try delta runFirstQ.sl.HS0_1); (try delta runFirstQ.sl.HS1_1); (try delta runFirstQ.sl.HS2_1); (try delta runFirstQ.sl.HS3_1)
    refine (read_whole _ _ off2 _ _).trans ?_
    (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  iexists _; isplitr; swap; · iexact HS3
  ipureintro
  (try delta runFirstQ.sl.HS0_1); (try delta runFirstQ.sl.HS1_1); (try delta runFirstQ.sl.HS2_1); (try delta runFirstQ.sl.HS3_1)
  refine (read_whole _ _ off2 _ _).trans ?_
  (try delta runFirstQ.sl.H5_2); (try delta runFirstQ.sl.H5_1); (try delta runFirstQ.sl.H6_2); (try delta runFirstQ.sl.H6_1); (try delta runFirstQ.sl.r_6); (try delta runFirstQ.sl.r_5); (try delta runFirstQ.sl.r_4); (try delta runFirstQ.sl.r_3); (try delta runFirstQ.sl.r_2); (try delta runFirstQ.sl.r_1); (try delta runFirstQ.sl.v10); (try delta runFirstQ.sl.v12); (try delta runFirstQ.sl.v21); (try delta runFirstQ.sl.v79); (try delta runFirstQ.sl.v80); (try delta runFirstQ.sl.v81); (try delta runFirstQ.sl.HS0_1); (try delta runFirstQ.sl.HS1_1); (try delta runFirstQ.sl.HS2_1); (try delta runFirstQ.sl.HS3_1)
  rfl

set_option maxHeartbeats 1000000 in
/-- The body at the first grid point, the semantic channels kept: the outputs' blocks are `blockQ` and `blockC`,
    and the scratch holds the codebook, its double negated, its squared norms and the row numbers. -/
theorem runFirstN (c : Dev nD) (i : grid0.Coords) (arg1 : Memref sig .tc .vmem S1x288x1024 .f32) (harg1 : arg1.IsWhole) (arg2 : Memref sig .tc .vmem S1x32x1024 .f32) (harg2 : arg2.IsWhole) (arg3 : Memref sig .tc .smem S16x3 .i32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x288x1024 .f32) (harg6 : arg6.IsWhole) (arg7 : Memref sig .tc .vmem S1x33x1024 .i32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x1 .f32) (harg10 : arg10.IsWhole) (arg11 : Memref sig .tc .vmem S1024x1024 .f32) (harg11 : arg11.IsWhole) (hc0 : cond0 i)
    (x0 : Vec F S1x288x1024 .f32) (x1 : Vec F S1x32x1024 .f32) (x2 : Vec F S16x3 .i32) (x3 : Vec F S1024x256 .f32) (x4 : Vec F S1024x1 .f32) (hw : mw1 i x2 = 0#32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockQ i x0 x1 x2 x3 x4) ∗ owns (c : Thread nD τ) arg7 fullShare (blockC i x0 x1 x2 x3 x4) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  have hc1 : ¬ cond1 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact fun h => (hcond1 _).mp h hw
  have hc2 : cond2 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact (hcond2 _).mpr hw
  simp only [cc0__main_body_eq_skeleton]; unfold cc0__main_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (coverQ _ _)).trans ?_
    (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt, blockQ, upper, lower, mw2, mw3, if_pos hw]
  isplitl [H6]
  · iexists _; isplitr; swap; · iexact H6
    ipureintro
    refine (View.read_writes_eq_canon _ _ _ (coverC _ _)).trans ?_
    (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt, blockC, mw2, mw3]
  isplitl [HS0]
  · iexists _; isplitr; swap; · iexact HS0
    ipureintro
    (try delta runFirstN.sl.HS0_1); (try delta runFirstN.sl.HS1_1); (try delta runFirstN.sl.HS2_1); (try delta runFirstN.sl.HS3_1)
    refine (read_whole _ _ off2 _ _).trans ?_
    (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  isplitl [HS1]
  · iexists _; isplitr; swap; · iexact HS1
    ipureintro
    (try delta runFirstN.sl.HS0_1); (try delta runFirstN.sl.HS1_1); (try delta runFirstN.sl.HS2_1); (try delta runFirstN.sl.HS3_1)
    refine (read_whole _ _ off2 _ _).trans ?_
    (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  isplitl [HS2]
  · iexists _; isplitr; swap; · iexact HS2
    ipureintro
    (try delta runFirstN.sl.HS0_1); (try delta runFirstN.sl.HS1_1); (try delta runFirstN.sl.HS2_1); (try delta runFirstN.sl.HS3_1)
    refine (read_whole _ _ off2 _ _).trans ?_
    (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
    simp only [View.readAt_eq_ld, View.readCov_cons_toLoadRect, harg1.read_unread, harg2.read_unread, harg3.read_unread, harg4.read_unread, harg5.read_unread, View.ld_unit_zero (S := S1024x256) off2, View.ld_unit_zero (S := S1024x1) off2, View.ld_unit_zero (S := S1024x1024) off2, View.ld_unit_zero (S := S1x32x1024) off3, wordAt]
  iexists _; isplitr; swap; · iexact HS3
  ipureintro
  (try delta runFirstN.sl.HS0_1); (try delta runFirstN.sl.HS1_1); (try delta runFirstN.sl.HS2_1); (try delta runFirstN.sl.HS3_1)
  refine (read_whole _ _ off2 _ _).trans ?_
  (try delta runFirstN.sl.H5_2); (try delta runFirstN.sl.H5_1); (try delta runFirstN.sl.H6_2); (try delta runFirstN.sl.H6_1); (try delta runFirstN.sl.r_6); (try delta runFirstN.sl.r_5); (try delta runFirstN.sl.r_4); (try delta runFirstN.sl.r_3); (try delta runFirstN.sl.r_2); (try delta runFirstN.sl.r_1); (try delta runFirstN.sl.v10); (try delta runFirstN.sl.v12); (try delta runFirstN.sl.v21); (try delta runFirstN.sl.v79); (try delta runFirstN.sl.v80); (try delta runFirstN.sl.v81); (try delta runFirstN.sl.HS0_1); (try delta runFirstN.sl.HS1_1); (try delta runFirstN.sl.HS2_1); (try delta runFirstN.sl.HS3_1)
  rfl

end Cert.KernelIdeal.Hand

end
-- ==== Proof.KIRunLater.lean ====
/- The body at a later grid point. -/
module

public import proofs.«01_k».proof.Proof.KIBlock
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later grid point, the scratch as the first left it, the semantic channels quantized: the outputs' blocks are `blockQ` and `blockC`,
    and the scratch holds the codebook, its double negated, its squared norms and the row numbers. -/
theorem runLaterQ (c : Dev nD) (i : grid0.Coords) (arg1 : Memref sig .tc .vmem S1x288x1024 .f32) (harg1 : arg1.IsWhole) (arg2 : Memref sig .tc .vmem S1x32x1024 .f32) (harg2 : arg2.IsWhole) (arg3 : Memref sig .tc .smem S16x3 .i32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x288x1024 .f32) (harg6 : arg6.IsWhole) (arg7 : Memref sig .tc .vmem S1x33x1024 .i32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x1 .f32) (harg10 : arg10.IsWhole) (arg11 : Memref sig .tc .vmem S1024x1024 .f32) (harg11 : arg11.IsWhole) (hc0 : ¬ cond0 i)
    (x0 : Vec F S1x288x1024 .f32) (x1 : Vec F S1x32x1024 .f32) (x2 : Vec F S16x3 .i32) (x3 : Vec F S1024x256 .f32) (x4 : Vec F S1024x1 .f32) (hw : mw1 i x2 ≠ 0#32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockQ i x0 x1 x2 x3 x4) ∗ owns (c : Thread nD τ) arg7 fullShare (blockC i x0 x1 x2 x3 x4) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  have hc1 : cond1 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact (hcond1 _).mpr hw
  have hc2 : ¬ cond2 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact fun h => hw ((hcond2 _).mp h)
  simp only [cc0__main_body_eq_skeleton]; unfold cc0__main_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4
  obtain rfl := harg8.eq_unread hfs0; obtain rfl := harg9.eq_unread hfs1; obtain rfl := harg10.eq_unread hfs2; obtain rfl := harg11.eq_unread hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (coverQ _ _)).trans ?_
    (try delta runLaterQ.sl.H5_2); (try delta runLaterQ.sl.H5_1); (try delta runLaterQ.sl.H6_2); (try delta runLaterQ.sl.H6_1); (try delta runLaterQ.sl.r_6); (try delta runLaterQ.sl.r_5); (try delta runLaterQ.sl.r_4); (try delta runLaterQ.sl.r_3); (try delta runLaterQ.sl.r_2); (try delta runLaterQ.sl.r_1)
    simp only [View.readAt_eq_ld, View.readCov_cons_toLoadRect, harg1.read_unread, harg2.read_unread, harg3.read_unread, harg4.read_unread, harg5.read_unread, harg8.read_unread, harg9.read_unread, harg10.read_unread, harg11.read_unread, View.ld_unit_zero (S := S1024x256) off2, View.ld_unit_zero (S := S1024x1) off2, View.ld_unit_zero (S := S1024x1024) off2, View.ld_unit_zero (S := S1x32x1024) off3, wordAt, blockQ, upper, lower, mw2, mw3, if_neg hw]
  isplitl [H6]
  · iexists _; isplitr; swap; · iexact H6
    ipureintro
    refine (View.read_writes_eq_canon _ _ _ (coverC _ _)).trans ?_
    (try delta runLaterQ.sl.H5_2); (try delta runLaterQ.sl.H5_1); (try delta runLaterQ.sl.H6_2); (try delta runLaterQ.sl.H6_1); (try delta runLaterQ.sl.r_6); (try delta runLaterQ.sl.r_5); (try delta runLaterQ.sl.r_4); (try delta runLaterQ.sl.r_3); (try delta runLaterQ.sl.r_2); (try delta runLaterQ.sl.r_1)
    simp only [View.readAt_eq_ld, View.readCov_cons_toLoadRect, harg1.read_unread, harg2.read_unread, harg3.read_unread, harg4.read_unread, harg5.read_unread, harg8.read_unread, harg9.read_unread, harg10.read_unread, harg11.read_unread, View.ld_unit_zero (S := S1024x256) off2, View.ld_unit_zero (S := S1024x1) off2, View.ld_unit_zero (S := S1024x1024) off2, View.ld_unit_zero (S := S1x32x1024) off3, wordAt, blockC, mw2, mw3]
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexists _; isplitr; · ipureintro; exact harg11.read_unread _
  iexact HS3

set_option maxHeartbeats 1000000 in
/-- The body at a later grid point, the scratch as the first left it, the semantic channels kept: the outputs' blocks are `blockQ` and `blockC`,
    and the scratch holds the codebook, its double negated, its squared norms and the row numbers. -/
theorem runLaterN (c : Dev nD) (i : grid0.Coords) (arg1 : Memref sig .tc .vmem S1x288x1024 .f32) (harg1 : arg1.IsWhole) (arg2 : Memref sig .tc .vmem S1x32x1024 .f32) (harg2 : arg2.IsWhole) (arg3 : Memref sig .tc .smem S16x3 .i32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x288x1024 .f32) (harg6 : arg6.IsWhole) (arg7 : Memref sig .tc .vmem S1x33x1024 .i32) (harg7 : arg7.IsWhole) (arg8 : Memref sig .tc .vmem S1024x256 .f32) (harg8 : arg8.IsWhole) (arg9 : Memref sig .tc .vmem S1024x256 .f32) (harg9 : arg9.IsWhole) (arg10 : Memref sig .tc .vmem S1024x1 .f32) (harg10 : arg10.IsWhole) (arg11 : Memref sig .tc .vmem S1024x1024 .f32) (harg11 : arg11.IsWhole) (hc0 : ¬ cond0 i)
    (x0 : Vec F S1x288x1024 .f32) (x1 : Vec F S1x32x1024 .f32) (x2 : Vec F S16x3 .i32) (x3 : Vec F S1024x256 .f32) (x4 : Vec F S1024x1 .f32) (hw : mw1 i x2 = 0#32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockQ i x0 x1 x2 x3 x4) ∗ owns (c : Thread nD τ) arg7 fullShare (blockC i x0 x1 x2 x3 x4) ∗ owns (c : Thread nD τ) arg8 fullShare (k0_pay5 x3 x4) ∗ owns (c : Thread nD τ) arg9 fullShare (k0_pay6 x3 x4) ∗ owns (c : Thread nD τ) arg10 fullShare (k0_pay7 x3 x4) ∗ owns (c : Thread nD τ) arg11 fullShare k0_pay3) -∗ K ⟨⟩))
      ⊢ wp frame (wpE (defs₀ (F := F)) Variants.none c none) E (cc0__main_body i arg1 harg1 arg2 harg2 arg3 harg3 arg4 harg4 arg5 harg5 arg6 harg6 arg7 harg7 arg8 harg8 arg9 harg9 arg10 harg10 arg11 harg11) K := by
  have hc1 : ¬ cond1 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact fun h => (hcond1 _).mp h hw
  have hc2 : cond2 (arg3.view.readAt (Elt F) (Rect.unit (s := S16x3) (k0_off1 i) S1x1.size (k0_off1_inb i)).toLoadRect (harg3.unread x2) (Shape.Idx.first (numel1_S1x1.symm ▸ Nat.one_pos))) := by
    rw [View.readAt_eq_ld, harg3.read_unread]; exact (hcond2 _).mpr hw
  simp only [cc0__main_body_eq_skeleton]; unfold cc0__main_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4
  obtain rfl := harg8.eq_unread hfs0; obtain rfl := harg9.eq_unread hfs1; obtain rfl := harg10.eq_unread hfs2; obtain rfl := harg11.eq_unread hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (coverQ _ _)).trans ?_
    (try delta runLaterN.sl.H5_2); (try delta runLaterN.sl.H5_1); (try delta runLaterN.sl.H6_2); (try delta runLaterN.sl.H6_1); (try delta runLaterN.sl.r_6); (try delta runLaterN.sl.r_5); (try delta runLaterN.sl.r_4); (try delta runLaterN.sl.r_3); (try delta runLaterN.sl.r_2); (try delta runLaterN.sl.r_1)
    simp only [View.readAt_eq_ld, View.readCov_cons_toLoadRect, harg1.read_unread, harg2.read_unread, harg3.read_unread, harg4.read_unread, harg5.read_unread, harg8.read_unread, harg9.read_unread, harg10.read_unread, harg11.read_unread, View.ld_unit_zero (S := S1024x256) off2, View.ld_unit_zero (S := S1024x1) off2, View.ld_unit_zero (S := S1024x1024) off2, View.ld_unit_zero (S := S1x32x1024) off3, wordAt, blockQ, upper, lower, mw2, mw3, if_pos hw]
  isplitl [H6]
  · iexists _; isplitr; swap; · iexact H6
    ipureintro
    refine (View.read_writes_eq_canon _ _ _ (coverC _ _)).trans ?_
    (try delta runLaterN.sl.H5_2); (try delta runLaterN.sl.H5_1); (try delta runLaterN.sl.H6_2); (try delta runLaterN.sl.H6_1); (try delta runLaterN.sl.r_6); (try delta runLaterN.sl.r_5); (try delta runLaterN.sl.r_4); (try delta runLaterN.sl.r_3); (try delta runLaterN.sl.r_2); (try delta runLaterN.sl.r_1)
    simp only [View.readAt_eq_ld, View.readCov_cons_toLoadRect, harg1.read_unread, harg2.read_unread, harg3.read_unread, harg4.read_unread, harg5.read_unread, harg8.read_unread, harg9.read_unread, harg10.read_unread, harg11.read_unread, View.ld_unit_zero (S := S1024x256) off2, View.ld_unit_zero (S := S1024x1) off2, View.ld_unit_zero (S := S1024x1024) off2, View.ld_unit_zero (S := S1x32x1024) off3, wordAt, blockC, mw2, mw3]
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  iexists _; isplitr; · ipureintro; exact harg11.read_unread _
  iexact HS3

end Cert.KernelIdeal.Hand

end
-- ==== Proof.KIFrame.lean ====
/- The launch: what every grid point leaves, the whole run, and that it leaves the arguments as they were. -/
module

public import proofs.«01_k».proof.Proof.KIRunFirst
public import proofs.«01_k».proof.Proof.KIRunLater
public import Idealize.ShloMosaic.Lib.Claim
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: its proof data -/

abbrev ms0 (t : Fin cfg0.N) : Memref sig .tc .vmem S1x288x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S16x3 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x288x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x33x1024 .i32 := win0_6.stage (cfg0.slots t 6)
abbrev hs6 (t : Fin cfg0.N) : (ms6 t).IsWhole := hstage0_6 ((cfg0.slots t 6).cast nbuf0_6)
abbrev sc0 : Memref sig .tc .vmem S1024x256 .f32 := Memref.whole cc0_scratch0
abbrev sc1 : Memref sig .tc .vmem S1024x256 .f32 := Memref.whole cc0_scratch1
abbrev sc2 : Memref sig .tc .vmem S1024x1 .f32 := Memref.whole cc0_scratch2
abbrev sc3 : Memref sig .tc .vmem S1024x1024 .f32 := Memref.whole cc0_scratch3

/-- The scratch at any contents and the generator register at any state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The whole `embedding_sum`, as every grid point's block of it. -/
theorem iblk3 (c : Dev nD) (t s : Fin cfg0.N) : iblk m c 3 t = iblk m c 3 s := rfl
/-- The whole `cluster_usage` column, as every grid point's block of it. -/
theorem iblk4 (c : Dev nD) (t s : Fin cfg0.N) : iblk m c 4 t = iblk m c 4 s := rfl

/-- The first grid point. -/
abbrev t0 : Fin cfg0.N := ⟨0, by rw [show cfg0.N = 16 from N_0]; omega⟩

/-- The scratch as the first grid point leaves it: the codebook, its double negated, its squared norms, the row numbers. -/
def PhiK (c : Dev nD) : sProp 𝕄 :=
  iprop(iprop(owns (c : Thread nD τ) sc0 fullShare (k0_pay5 (iblk m c 3 t0) (iblk m c 4 t0)) ∗ owns (c : Thread nD τ) sc1 fullShare (k0_pay6 (iblk m c 3 t0) (iblk m c 4 t0)) ∗ owns (c : Thread nD τ) sc2 fullShare (k0_pay7 (iblk m c 3 t0) (iblk m c 4 t0)) ∗ owns (c : Thread nD τ) sc3 fullShare k0_pay3) ∗ (∃ r, prngReg c r))

/-- Before the first point the scratch holds anything; before each later one, what the first left. -/
def PhiS (c : Dev nD) : ℕ → sProp 𝕄
  | 0 => Pipeline.ΦA spec0 c
  | _ + 1 => PhiK m c

/-- The proof data: each window's array as the launch finds it, its staging buffer after each point, the scratch
    between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockQ (grid0.coords t) (iblk m c 0 t) (iblk m c 1 t) (iblk m c 2 t) (iblk m c 3 t) (iblk m c 4 t)
    | ⟨6, _⟩ => blockC (grid0.coords t) (iblk m c 0 t) (iblk m c 1 t) (iblk m c 2 t) (iblk m c 3 t) (iblk m c 4 t)
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
/-- What a point leaves in the first output's staging buffer. -/
theorem after5 (c : Dev nD) (t : Fin cfg0.N) : (dats m 0 c).after 5 t
    = blockQ (grid0.coords t) (iblk m c 0 t) (iblk m c 1 t) (iblk m c 2 t) (iblk m c 3 t) (iblk m c 4 t) := by dsimp only [dats]
/-- What a point leaves in the second output's staging buffer. -/
theorem after6 (c : Dev nD) (t : Fin cfg0.N) : (dats m 0 c).after 6 t
    = blockC (grid0.coords t) (iblk m c 0 t) (iblk m c 1 t) (iblk m c 2 t) (iblk m c 3 t) (iblk m c 4 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! # The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 6400000 in
/-- The body at any point runs from the one to the other: at the first point by its run there, at a later one by its
    run on the scratch the first left, the mask word deciding which. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    after0, after1, after2, after3, after4, after5, after6]
  rw [show (dats m 0 c).Φ t.succ = PhiK m c from rfl, show (dats m 0 c).Φ t.castSucc = PhiS m c t.val from rfl]
  unfold PhiK
  rw [iblk3 m c t0 t, iblk4 m c t0 t]
  have hN : t.val < 16 := lt_of_lt_of_eq t.isLt (show cfg0.N = 16 from N_0)
  by_cases hz : t.val = 0
  · rw [hz, show PhiS m c 0 = Pipeline.ΦA spec0 c from rfl, PhiA_eq]
    have hc0 : cond0 (grid0.coords t) := (hcond0 t).mpr (by omega)
    by_cases hw : mw1 (grid0.coords t) (iblk m c 2 t) = 0#32
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (runFirstN c (grid0.coords t) _ _ _ _ _ _ _ _ _ _ _ _ _ _ _ _ _ _ _ _ _ _ hc0 (iblk m c 0 t) (iblk m c 1 t) (iblk m c 2 t) (iblk m c 3 t) (iblk m c 4 t) hw Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (runFirstQ c (grid0.coords t) _ _ _ _ _ _ _ _ _ _ _ _ _ _ _ _ _ _ _ _ _ _ hc0 (iblk m c 0 t) (iblk m c 1 t) (iblk m c 2 t) (iblk m c 3 t) (iblk m c 4 t) hw Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · obtain ⟨n, hn⟩ := Nat.exists_eq_succ_of_ne_zero hz
    rw [hn, show PhiS m c (n.succ) = PhiK m c from rfl]
    unfold PhiK
    rw [iblk3 m c t0 t, iblk4 m c t0 t]
    have hc0 : ¬ cond0 (grid0.coords t) := fun h => by have := (hcond0 t).mp h; omega
    by_cases hw : mw1 (grid0.coords t) (iblk m c 2 t) = 0#32
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (runLaterN c (grid0.coords t) _ _ _ _ _ _ _ _ _ _ _ _ _ _ _ _ _ _ _ _ _ _ hc0 (iblk m c 0 t) (iblk m c 1 t) (iblk m c 2 t) (iblk m c 3 t) (iblk m c 4 t) hw Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (runLaterQ c (grid0.coords t) _ _ _ _ _ _ _ _ _ _ _ _ _ _ _ _ _ _ _ _ _ _ hc0 (iblk m c 0 t) (iblk m c 1 t) (iblk m c 2 t) (iblk m c 3 t) (iblk m c 4 t) hw Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- A point's call of the body, as the launch's table holds it. -/
theorem defs₀_row (t : Fin cfg0.N) :
    defs₀ (F := F) .tc cfg0.body (cfg0.bodyArgs t (cfg0.slots t)) = bodyAt0 t := by
  unfold defs₀; rw [Defs.onTc_tc]

/-- The body's triple at every point, in the launch's form. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the scratch over at any contents. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  have h16 : cfg0.N = 15 + 1 := N_0
  rw [show (dats m 0 c).Φ (Fin.last cfg0.N) = PhiS m c cfg0.N from rfl, h16, show PhiS m c (15 + 1) = PhiK m c from rfl, PhiA_eq]
  unfold PhiK
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! # The run -/

set_option backward.isDefEq.respectTransparency.types false in
/-- The whole program: every window's array ends at what the points left in it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program's windows. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.RefStages.lean ====
/-
  What the reference program computes, stage by stage, for any float values: each stage is a group of its operations
  over the stages before it, and `resQ` and `resC` are its two results.
-/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Which batch entries have their semantic channels quantised. -/
def semMask : IVec S16x1x1 1 := fun i => lit0 (S16x1x1.rowMajor i)

/-- Which batch entries have their acoustic channels rounded. -/
def quantMask : IVec S16x1x1 1 := fun i => lit1 (S16x1x1.rowMajor i)

/-- Which of the others have them dithered. -/
def ditherMask : IVec S16x1x1 1 := fun i => lit2 (S16x1x1.rowMajor i)

/-- The semantic channels of the input. -/
def sem (x : FVec F S16x288x1024 .f32) : FVec F S16x256x1024 .f32 :=
  extractStridedSlice S16x256x1024 ![0, 0, 0] x slices_S16x288x1024_S16x256x1024_0_0_0

/-- The acoustic channels of the input. -/
def aco (x : FVec F S16x288x1024 .f32) : FVec F S16x32x1024 .f32 :=
  extractStridedSlice S16x32x1024 ![0, 256, 0] x slices_S16x288x1024_S16x32x1024_0_256_0

/-- The codebook: the sums of the embeddings over the clipped usage counts. -/
def emb (es : FVec F S1024x256 .f32) (cu : FVec F S1024 .f32) : FVec F S1024x256 .f32 :=
  Host.divf es (broadcastInDim S1024x256 ![0, 1] bcast_S1024x1_S1024x256_0_1
    (broadcastInDim S1024x1 ![0] bcast_S1024_S1024x1_0
      (maximumf (broadcastInDim S1024 ![] bcast_S_S1024 (id (constant S_ .f32 0x3727C5AC#32))) cu)))

/-- The semantic channels as one row per frame. -/
def flat (x : FVec F S16x288x1024 .f32) : FVec F S16384x256 .f32 :=
  shapeCast S16384x256 (transpose S16x1024x256 [0, 2, 1] (sem x) transposes_S16x256x1024_S16x1024x256_0_2_1)
    shapeCasts_S16x1024x256_S16384x256

/-- The squared distances, of every row to every codebook row. -/
def d2 (f : FVec F S16384x256 .f32) (e : FVec F S1024x256 .f32) : FVec F S16384x1024 .f32 :=
  subf
    (addf
      (broadcastInDim S16384x1024 ![0, 1] bcast_S16384x1_S16384x1024_0_1 (broadcastInDim S16384x1 ![0] bcast_S16384_S16384x1_0
        (Host.reduceAdd (mulf f f) (constant S_ .f32 0x00000000#32) reducesTo_S16384x256_S16384_d1 h_S_)))
      (broadcastInDim S16384x1024 ![0, 1] bcast_S1x1024_S16384x1024_0_1 (broadcastInDim S1x1024 ![1] bcast_S1024_S1x1024_1
        (Host.reduceAdd (mulf e e) (constant S_ .f32 0x00000000#32) reducesTo_S1024x256_S1024_d1 h_S_))))
    (mulf (broadcastInDim S16384x1024 ![] bcast_S_S16384x1024 (constant S_ .f32 0x40000000#32))
      (Host.dotGeneral dot_S16384x256_S256x1024_S16384x1024_1_0_0_1_n_n none f
        (transpose S256x1024 [1, 0] e transposes_S1024x256_S256x1024_1_0)))

/-- The distances: the root of the squared ones, clipped at zero. -/
def dist (d : FVec F S16384x1024 .f32) : FVec F S16384x1024 .f32 :=
  Host.sqrt (maximumf (broadcastInDim S16384x1024 ![] bcast_S_S16384x1024 (id (constant S_ .f32 0x00000000#32))) d)

/-- The value half of a row's arg-min, of a row, its column numbers and the two starting values. -/
def argminVal (x : FVec F S16384x1024 .f32) (y : IVec S16384x1024 32) (u : FVec F S_ .f32) (v : IVec S_ 32) : FVec F S16384 .f32 :=
  fun j => (Host.argReduce reducer_argmin_f32_i32 x y u v reducesTo_S16384x1024_S16384_d1 h_S_ j).1

/-- The index half of a row's arg-min. -/
def argminIdx (x : FVec F S16384x1024 .f32) (y : IVec S16384x1024 32) (u : FVec F S_ .f32) (v : IVec S_ 32) : IVec S16384 32 :=
  fun j => (Host.argReduce reducer_argmin_f32_i32 x y u v reducesTo_S16384x1024_S16384_d1 h_S_ j).2

/-- The semantic code of every row: the column of its least distance. -/
def codes (d : FVec F S16384x1024 .f32) : IVec S16384 32 :=
  argminIdx d (iotaInDim S16384x1024 32 1) (constant S_ .f32 0x7F800000#32) (constantI S_ 32 0#32)

/-- The row of the codebook a code names, a negative code counting from the end. -/
def rowOf (k : IVec S16384 32) : IVec S16384x1 32 :=
  broadcastInDim S16384x1 ![0] bcast_S16384_S16384x1_0
    (select (cmpi .slt k (broadcastInDim S16384 ![] bcast_S_S16384 (constantI S_ 32 0#32)))
      (addi k (broadcastInDim S16384 ![] bcast_S_S16384 (constantI S_ 32 1024#32))) k)

/-- Whether that row is a row of the codebook. -/
def rowOk (r : IVec S16384x1 32) : IVec S16384 1 :=
  Host.reduce IntOp.andi
    (andi (cmpi .sge r (broadcastInDim S16384x1 ![] bcast_S_S16384x1 (constantI S_ 32 0#32)))
      (cmpi .sle r (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codebook's rows at the codes. -/
def taken (e : FVec F S1024x256 .f32) (k : IVec S16384 32) : FVec F S16384x256 .f32 :=
  select (broadcastInDim S16384x256 ![0] bcast_S16384_S16384x256_0 (rowOk (rowOf k)))
    (Host.gather gather_S1024x256_S16384x1_S16384x256_1_0_n_n_0_1_1256 e (rowOf k))
    (broadcastInDim S16384x256 ![] bcast_S_S16384x256 (constant S_ .f32 0x7FC00000#32))

/-- The quantised semantic channels. -/
def quant (q : FVec F S16384x256 .f32) : FVec F S16x256x1024 .f32 :=
  transpose S16x256x1024 [0, 2, 1] (shapeCast S16x1024x256 q shapeCasts_S16384x256_S16x1024x256)
    transposes_S16x1024x256_S16x256x1024_0_2_1

/-- The semantic half of the first result: the quantised channels, passed straight through, where the mask says so. -/
def semOut (w : IVec S16x1x1 1) (s q : FVec F S16x256x1024 .f32) : FVec F S16x256x1024 .f32 :=
  select (broadcastInDim S16x256x1024 ![0, 1, 2] bcast_S16x1x1_S16x256x1024_0_1_2 w)
    (addf s (subf q s)) s

/-- The bounded acoustic channels. -/
def zb (a : FVec F S16x32x1024 .f32) : FVec F S16x32x1024 .f32 :=
  mulf (Host.tanh a) (broadcastInDim S16x32x1024 ![] bcast_S_S16x32x1024 (constant S_ .f32 0x40F00000#32))

/-- The acoustic output: rounded, dithered or left alone, as the two masks say. -/
def zout (w₁ w₂ : IVec S16x1x1 1) (z n : FVec F S16x32x1024 .f32) : FVec F S16x32x1024 .f32 :=
  select (broadcastInDim S16x32x1024 ![0, 1, 2] bcast_S16x1x1_S16x32x1024_0_1_2 w₁)
    (addf z (subf (Host.roundeven z) z))
    (select (broadcastInDim S16x32x1024 ![0, 1, 2] bcast_S16x1x1_S16x32x1024_0_1_2 w₂)
      (minimumf (broadcastInDim S16x32x1024 ![] bcast_S_S16x32x1024 (id (constant S_ .f32 0x40F00000#32)))
        (maximumf (broadcastInDim S16x32x1024 ![] bcast_S_S16x32x1024 (id (constant S_ .f32 0xC0F00000#32))) (addf z n)))
      z)

/-- The acoustic codes. -/
def acoCodes (z : FVec F S16x32x1024 .f32) : IVec S16x32x1024 32 :=
  minsi (broadcastInDim S16x32x1024 ![] bcast_S_S16x32x1024 (id (constantI S_ 32 15#32)))
    (maxsi (broadcastInDim S16x32x1024 ![] bcast_S_S16x32x1024 (id (constantI S_ 32 0#32)))
      (fptosi 32 (Host.roundeven (addf z (broadcastInDim S16x32x1024 ![] bcast_S_S16x32x1024 (constant S_ .f32 0x40F00000#32))))))

/-- The acoustic half of the first result. -/
def znorm (z : FVec F S16x32x1024 .f32) : FVec F S16x32x1024 .f32 :=
  Host.divf z (broadcastInDim S16x32x1024 ![] bcast_S_S16x32x1024 (constant S_ .f32 0x40F00000#32))

/-- The first result of its two halves. -/
def joinQ (a : FVec F S16x256x1024 .f32) (b : FVec F S16x32x1024 .f32) : FVec F S16x288x1024 .f32 :=
  concatenate S16x288x1024 1 [⟨S16x256x1024, a⟩, ⟨S16x32x1024, b⟩] concatenates_S16x256x1024_S16x32x1024_S16x288x1024_d1

/-- The second result of its two halves. -/
def joinC (a : IVec S16x1x1024 32) (b : IVec S16x32x1024 32) : IVec S16x33x1024 32 :=
  concatenate S16x33x1024 1 [⟨S16x1x1024, a⟩, ⟨S16x32x1024, b⟩] concatenates_S16x1x1024_S16x32x1024_S16x33x1024_d1

/-- The semantic codes of the arguments. -/
def semCodes (x : FVec F S16x288x1024 .f32) (es : FVec F S1024x256 .f32) (cu : FVec F S1024 .f32) : IVec S16384 32 :=
  codes (dist (d2 (flat x) (emb es cu)))

/-- The first result: the quantised, normalised channels. -/
def resQ (x : FVec F S16x288x1024 .f32) (es : FVec F S1024x256 .f32) (cu : FVec F S1024 .f32) (n : FVec F S16x32x1024 .f32) :
    FVec F S16x288x1024 .f32 :=
  joinQ (semOut semMask (sem x) (quant (taken (emb es cu) (semCodes x es cu)))) (znorm (zout quantMask ditherMask (zb (aco x)) n))

/-- The second result: the codes. -/
def resC (x : FVec F S16x288x1024 .f32) (es : FVec F S1024x256 .f32) (cu : FVec F S1024 .f32) (n : FVec F S16x32x1024 .f32) :
    IVec S16x33x1024 32 :=
  joinC (shapeCast S16x1x1024 (semCodes x es cu) shapeCasts_S16384_S16x1x1024) (acoCodes (zout quantMask ditherMask (zb (aco x)) n))

end Cert.ReferenceIdeal.Hand

end
-- ==== Proof.RefOps.lean ====
/-
  The reference program's operations, as a list in three pieces: up to the codes, up to the semantic channels, and the
  acoustic ones with the two results.
-/
module

public import proofs.«01_k».proof.Proof.RefStages
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations up to the semantic codes, a called function's standing in its call's place. -/
abbrev opsA : List (HloOp τ sig (Elt F)) :=
  [ nullary main_c (fun i => lit0 (S16x1x1.rowMajor i)),
    nullary main_c_0 (fun i => lit1 (S16x1x1.rowMajor i)),
    nullary main_c_1 (fun i => lit2 (S16x1x1.rowMajor i)),
    unary main_arg0 main_v0 ((extractStridedSlice S16x256x1024 ![0, 0, 0] · slices_S16x288x1024_S16x256x1024_0_0_0) : (⟨S16x288x1024, .f32⟩ : BufTy).Contents (Elt F) → (⟨S16x256x1024, .f32⟩ : BufTy).Contents (Elt F)),
    unary main_arg0 main_v1 ((extractStridedSlice S16x32x1024 ![0, 256, 0] · slices_S16x288x1024_S16x32x1024_0_256_0) : (⟨S16x288x1024, .f32⟩ : BufTy).Contents (Elt F) → (⟨S16x32x1024, .f32⟩ : BufTy).Contents (Elt F)),
    nullary main_cst (constant S_ .f32 0x3727C5AC#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_arg2) (TRef.of (T := ⟨S1024, .f32⟩) main_v2) maximumf,
    unary main_v2 main_v3 (broadcastInDim S1024x1 ![0] bcast_S1024_S1024x1_0 : (⟨S1024, .f32⟩ : BufTy).Contents (Elt F) → (⟨S1024x1, .f32⟩ : BufTy).Contents (Elt F)),
    unary main_v3 main_v4 (broadcastInDim S1024x256 ![0, 1] bcast_S1024x1_S1024x256_0_1 : (⟨S1024x1, .f32⟩ : BufTy).Contents (Elt F) → (⟨S1024x256, .f32⟩ : BufTy).Contents (Elt F)),
    binary main_arg1 main_v4 main_v5 (Host.divf : (⟨S1024x256, .f32⟩ : BufTy).Contents (Elt F) → (⟨S1024x256, .f32⟩ : BufTy).Contents (Elt F) → (⟨S1024x256, .f32⟩ : BufTy).Contents (Elt F)),
    unary main_v0 main_v6 ((transpose S16x1024x256 [0, 2, 1] · transposes_S16x256x1024_S16x1024x256_0_2_1) : (⟨S16x256x1024, .f32⟩ : BufTy).Contents (Elt F) → (⟨S16x1024x256, .f32⟩ : BufTy).Contents (Elt F)),
    reshape main_v6 main_v7 (rfl : (.f32 : EltTy) = .f32) shapeCasts_S16x1024x256_S16384x256,
    binary main_v7 main_v7 main_v8 (mulf : (⟨S16384x256, .f32⟩ : BufTy).Contents (Elt F) → (⟨S16384x256, .f32⟩ : BufTy).Contents (Elt F) → (⟨S16384x256, .f32⟩ : BufTy).Contents (Elt F)),
    nullary main_cst_2 (constant S_ .f32 0x00000000#32),
    binary main_v8 main_cst_2 main_v9 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v9 main_v10 (broadcastInDim S16384x1 ![0] bcast_S16384_S16384x1_0 : (⟨S16384, .f32⟩ : BufTy).Contents (Elt F) → (⟨S16384x1, .f32⟩ : BufTy).Contents (Elt F)),
    binary main_v5 main_v5 main_v11 (mulf : (⟨S1024x256, .f32⟩ : BufTy).Contents (Elt F) → (⟨S1024x256, .f32⟩ : BufTy).Contents (Elt F) → (⟨S1024x256, .f32⟩ : BufTy).Contents (Elt F)),
    nullary main_cst_3 (constant S_ .f32 0x00000000#32),
    binary main_v11 main_cst_3 main_v12 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v10 main_v14 (broadcastInDim S16384x1024 ![0, 1] bcast_S16384x1_S16384x1024_0_1 : (⟨S16384x1, .f32⟩ : BufTy).Contents (Elt F) → (⟨S16384x1024, .f32⟩ : BufTy).Contents (Elt F)),
    unary main_v13 main_v15 (broadcastInDim S16384x1024 ![0, 1] bcast_S1x1024_S16384x1024_0_1 : (⟨S1x1024, .f32⟩ : BufTy).Contents (Elt F) → (⟨S16384x1024, .f32⟩ : BufTy).Contents (Elt F)),
    binary main_v14 main_v15 main_v16 (addf : (⟨S16384x1024, .f32⟩ : BufTy).Contents (Elt F) → (⟨S16384x1024, .f32⟩ : BufTy).Contents (Elt F) → (⟨S16384x1024, .f32⟩ : BufTy).Contents (Elt F)),
    unary main_v5 main_v17 ((transpose S256x1024 [1, 0] · transposes_S1024x256_S256x1024_1_0) : (⟨S1024x256, .f32⟩ : BufTy).Contents (Elt F) → (⟨S256x1024, .f32⟩ : BufTy).Contents (Elt F)),
    binary main_v7 main_v17 main_v18 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_4 (constant S_ .f32 0x40000000#32),
    unary main_cst_4 main_v19 (broadcastInDim S16384x1024 ![] bcast_S_S16384x1024 : (⟨S_, .f32⟩ : BufTy).Contents (Elt F) → (⟨S16384x1024, .f32⟩ : BufTy).Contents (Elt F)),
    binary main_v19 main_v18 main_v20 (mulf : (⟨S16384x1024, .f32⟩ : BufTy).Contents (Elt F) → (⟨S16384x1024, .f32⟩ : BufTy).Contents (Elt F) → (⟨S16384x1024, .f32⟩ : BufTy).Contents (Elt F)),
    binary main_v16 main_v20 main_v21 (subf : (⟨S16384x1024, .f32⟩ : BufTy).Contents (Elt F) → (⟨S16384x1024, .f32⟩ : BufTy).Contents (Elt F) → (⟨S16384x1024, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S16384x1024, .f32⟩) main_call1_v1) (broadcastInDim S16384x1024 ![] bcast_S_S16384x1024),
    TRef.binary (TRef.of (T := ⟨S16384x1024, .f32⟩) main_call1_v1) (TRef.of (T := ⟨S16384x1024, .f32⟩) main_v21) (TRef.of (T := ⟨S16384x1024, .f32⟩) main_v22) maximumf,
    unary main_v22 main_v23 (Host.sqrt : (⟨S16384x1024, .f32⟩ : BufTy).Contents (Elt F) → (⟨S16384x1024, .f32⟩ : BufTy).Contents (Elt F)),
    TRef.nullary (TRef.of (T := ⟨S16384x1024, .i32⟩) main_call2_v0) (iotaInDim S16384x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x1024, .f32⟩) main_v23) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (argminVal (F := F)),
    TRef.quaternary (TRef.of (T := ⟨S16384x1024, .f32⟩) main_v23) (TRef.of (T := ⟨S16384x1024, .i32⟩) main_call2_v0) (TRef.of (T := ⟨S_, .f32⟩) main_call2_cst) (TRef.of (T := ⟨S_, .i32⟩) main_call2_c) (TRef.of (T := ⟨S16384, .i32⟩) main_v24) (argminIdx (F := F)) ]

/-- The operations from the codes to the semantic half of the first result. -/
abbrev opsB : List (HloOp τ sig (Elt F)) :=
  [ reshape main_v24 main_v25 (rfl : (.i32 : EltTy) = .i32) shapeCasts_S16384_S16x1x1024,
    TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_v24) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_v24) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_v24) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S1024x256, .f32⟩) main_v5) (TRef.of (T := ⟨S16384x1, .i32⟩) main_call3_v5) (TRef.of (T := ⟨S16384x256, .f32⟩) main_call3_v13) (fun x i => Host.gather gather_S1024x256_S16384x1_S16384x256_1_0_n_n_0_1_1256 x i),
    TRef.unary (TRef.of (T := ⟨S16384, .i1⟩) main_call3_v12) (TRef.of (T := ⟨S16384x256, .i1⟩) main_call3_v14) (broadcastInDim S16384x256 ![0] bcast_S16384_S16384x256_0),
    TRef.nullary (TRef.of (T := ⟨S_, .f32⟩) main_call3_cst) (constant S_ .f32 0x7FC00000#32),
    TRef.unary (TRef.of (T := ⟨S_, .f32⟩) main_call3_cst) (TRef.of (T := ⟨S16384x256, .f32⟩) main_call3_v15) (broadcastInDim S16384x256 ![] bcast_S_S16384x256),
    TRef.ternary (TRef.of (T := ⟨S16384x256, .i1⟩) main_call3_v14) (TRef.of (T := ⟨S16384x256, .f32⟩) main_call3_v13) (TRef.of (T := ⟨S16384x256, .f32⟩) main_call3_v15) (TRef.of (T := ⟨S16384x256, .f32⟩) main_v26) select,
    reshape main_v26 main_v27 (rfl : (.f32 : EltTy) = .f32) shapeCasts_S16384x256_S16x1024x256,
    unary main_v27 main_v28 ((transpose S16x256x1024 [0, 2, 1] · transposes_S16x1024x256_S16x256x1024_0_2_1) : (⟨S16x1024x256, .f32⟩ : BufTy).Contents (Elt F) → (⟨S16x256x1024, .f32⟩ : BufTy).Contents (Elt F)),
    binary main_v28 main_v0 main_v29 (subf : (⟨S16x256x1024, .f32⟩ : BufTy).Contents (Elt F) → (⟨S16x256x1024, .f32⟩ : BufTy).Contents (Elt F) → (⟨S16x256x1024, .f32⟩ : BufTy).Contents (Elt F)),
    binary main_v0 main_v29 main_v30 (addf : (⟨S16x256x1024, .f32⟩ : BufTy).Contents (Elt F) → (⟨S16x256x1024, .f32⟩ : BufTy).Contents (Elt F) → (⟨S16x256x1024, .f32⟩ : BufTy).Contents (Elt F)),
    TRef.unary (TRef.of (T := ⟨S16x1x1, .i1⟩) main_c) (TRef.of (T := ⟨S16x256x1024, .i1⟩) main_call4_v0) (broadcastInDim S16x256x1024 ![0, 1, 2] bcast_S16x1x1_S16x256x1024_0_1_2),
    TRef.ternary (TRef.of (T := ⟨S16x256x1024, .i1⟩) main_call4_v0) (TRef.of (T := ⟨S16x256x1024, .f32⟩) main_v30) (TRef.of (T := ⟨S16x256x1024, .f32⟩) main_v0) (TRef.of (T := ⟨S16x256x1024, .f32⟩) main_v31) select ]

/-- The operations on the acoustic channels, and the two results. -/
abbrev opsC : List (HloOp τ sig (Elt F)) :=
  [ unary main_v1 main_v32 (Host.tanh : (⟨S16x32x1024, .f32⟩ : BufTy).Contents (Elt F) → (⟨S16x32x1024, .f32⟩ : BufTy).Contents (Elt F)),
    nullary main_cst_6 (constant S_ .f32 0x40F00000#32),
    unary main_cst_6 main_v33 (broadcastInDim S16x32x1024 ![] bcast_S_S16x32x1024 : (⟨S_, .f32⟩ : BufTy).Contents (Elt F) → (⟨S16x32x1024, .f32⟩ : BufTy).Contents (Elt F)),
    binary main_v32 main_v33 main_v34 (mulf : (⟨S16x32x1024, .f32⟩ : BufTy).Contents (Elt F) → (⟨S16x32x1024, .f32⟩ : BufTy).Contents (Elt F) → (⟨S16x32x1024, .f32⟩ : BufTy).Contents (Elt F)),
    TRef.unary (TRef.of (T := ⟨S16x32x1024, .f32⟩) main_v34) (TRef.of (T := ⟨S16x32x1024, .f32⟩) main_v35) Host.roundeven,
    binary main_v35 main_v34 main_v36 (subf : (⟨S16x32x1024, .f32⟩ : BufTy).Contents (Elt F) → (⟨S16x32x1024, .f32⟩ : BufTy).Contents (Elt F) → (⟨S16x32x1024, .f32⟩ : BufTy).Contents (Elt F)),
    binary main_v34 main_v36 main_v37 (addf : (⟨S16x32x1024, .f32⟩ : BufTy).Contents (Elt F) → (⟨S16x32x1024, .f32⟩ : BufTy).Contents (Elt F) → (⟨S16x32x1024, .f32⟩ : BufTy).Contents (Elt F)),
    binary main_v34 main_arg3 main_v38 (addf : (⟨S16x32x1024, .f32⟩ : BufTy).Contents (Elt F) → (⟨S16x32x1024, .f32⟩ : BufTy).Contents (Elt F) → (⟨S16x32x1024, .f32⟩ : BufTy).Contents (Elt F)),
    nullary main_cst_7 (constant S_ .f32 0xC0F00000#32),
    nullary main_cst_8 (constant S_ .f32 0x40F00000#32),
    TRef.unary (TRef.of (T := ⟨S_, .f32⟩) main_cst_7) (TRef.of (T := ⟨S_, .f32⟩) main_call6_v0) id,
    TRef.unary (TRef.of (T := ⟨S_, .f32⟩) main_call6_v0) (TRef.of (T := ⟨S16x32x1024, .f32⟩) main_call6_v1) (broadcastInDim S16x32x1024 ![] bcast_S_S16x32x1024),
    TRef.binary (TRef.of (T := ⟨S16x32x1024, .f32⟩) main_call6_v1) (TRef.of (T := ⟨S16x32x1024, .f32⟩) main_v38) (TRef.of (T := ⟨S16x32x1024, .f32⟩) main_call6_v2) maximumf,
    TRef.unary (TRef.of (T := ⟨S_, .f32⟩) main_cst_8) (TRef.of (T := ⟨S_, .f32⟩) main_call6_v3) id,
    TRef.unary (TRef.of (T := ⟨S_, .f32⟩) main_call6_v3) (TRef.of (T := ⟨S16x32x1024, .f32⟩) main_call6_v4) (broadcastInDim S16x32x1024 ![] bcast_S_S16x32x1024),
    TRef.binary (TRef.of (T := ⟨S16x32x1024, .f32⟩) main_call6_v4) (TRef.of (T := ⟨S16x32x1024, .f32⟩) main_call6_v2) (TRef.of (T := ⟨S16x32x1024, .f32⟩) main_v39) minimumf,
    TRef.unary (TRef.of (T := ⟨S16x1x1, .i1⟩) main_c_1) (TRef.of (T := ⟨S16x32x1024, .i1⟩) main_call7_v0) (broadcastInDim S16x32x1024 ![0, 1, 2] bcast_S16x1x1_S16x32x1024_0_1_2),
    TRef.ternary (TRef.of (T := ⟨S16x32x1024, .i1⟩) main_call7_v0) (TRef.of (T := ⟨S16x32x1024, .f32⟩) main_v39) (TRef.of (T := ⟨S16x32x1024, .f32⟩) main_v34) (TRef.of (T := ⟨S16x32x1024, .f32⟩) main_v40) select,
    TRef.unary (TRef.of (T := ⟨S16x1x1, .i1⟩) main_c_0) (TRef.of (T := ⟨S16x32x1024, .i1⟩) main_call8_v0) (broadcastInDim S16x32x1024 ![0, 1, 2] bcast_S16x1x1_S16x32x1024_0_1_2),
    TRef.ternary (TRef.of (T := ⟨S16x32x1024, .i1⟩) main_call8_v0) (TRef.of (T := ⟨S16x32x1024, .f32⟩) main_v37) (TRef.of (T := ⟨S16x32x1024, .f32⟩) main_v40) (TRef.of (T := ⟨S16x32x1024, .f32⟩) main_v41) select,
    nullary main_cst_9 (constant S_ .f32 0x40F00000#32),
    unary main_cst_9 main_v42 (broadcastInDim S16x32x1024 ![] bcast_S_S16x32x1024 : (⟨S_, .f32⟩ : BufTy).Contents (Elt F) → (⟨S16x32x1024, .f32⟩ : BufTy).Contents (Elt F)),
    binary main_v41 main_v42 main_v43 (addf : (⟨S16x32x1024, .f32⟩ : BufTy).Contents (Elt F) → (⟨S16x32x1024, .f32⟩ : BufTy).Contents (Elt F) → (⟨S16x32x1024, .f32⟩ : BufTy).Contents (Elt F)),
    TRef.unary (TRef.of (T := ⟨S16x32x1024, .f32⟩) main_v43) (TRef.of (T := ⟨S16x32x1024, .f32⟩) main_v44) Host.roundeven,
    unary main_v44 main_v45 (fptosi 32 : (⟨S16x32x1024, .f32⟩ : BufTy).Contents (Elt F) → (⟨S16x32x1024, .i32⟩ : BufTy).Contents (Elt F)),
    nullary main_c_10 (constantI S_ 32 0#32),
    nullary main_c_11 (constantI S_ 32 15#32),
    TRef.unary (TRef.of (T := ⟨S_, .i32⟩) main_c_10) (TRef.of (T := ⟨S_, .i32⟩) main_call10_v0) id,
    TRef.unary (TRef.of (T := ⟨S_, .i32⟩) main_call10_v0) (TRef.of (T := ⟨S16x32x1024, .i32⟩) main_call10_v1) (broadcastInDim S16x32x1024 ![] bcast_S_S16x32x1024),
    TRef.binary (TRef.of (T := ⟨S16x32x1024, .i32⟩) main_call10_v1) (TRef.of (T := ⟨S16x32x1024, .i32⟩) main_v45) (TRef.of (T := ⟨S16x32x1024, .i32⟩) main_call10_v2) maxsi,
    TRef.unary (TRef.of (T := ⟨S_, .i32⟩) main_c_11) (TRef.of (T := ⟨S_, .i32⟩) main_call10_v3) id,
    TRef.unary (TRef.of (T := ⟨S_, .i32⟩) main_call10_v3) (TRef.of (T := ⟨S16x32x1024, .i32⟩) main_call10_v4) (broadcastInDim S16x32x1024 ![] bcast_S_S16x32x1024),
    TRef.binary (TRef.of (T := ⟨S16x32x1024, .i32⟩) main_call10_v4) (TRef.of (T := ⟨S16x32x1024, .i32⟩) main_call10_v2) (TRef.of (T := ⟨S16x32x1024, .i32⟩) main_v46) minsi,
    nullary main_cst_12 (constant S_ .f32 0x40F00000#32),
    unary main_cst_12 main_v47 (broadcastInDim S16x32x1024 ![] bcast_S_S16x32x1024 : (⟨S_, .f32⟩ : BufTy).Contents (Elt F) → (⟨S16x32x1024, .f32⟩ : BufTy).Contents (Elt F)),
    binary main_v41 main_v47 main_v48 (Host.divf : (⟨S16x32x1024, .f32⟩ : BufTy).Contents (Elt F) → (⟨S16x32x1024, .f32⟩ : BufTy).Contents (Elt F) → (⟨S16x32x1024, .f32⟩ : BufTy).Contents (Elt F)),
    binary main_v31 main_v48 main_v49 (joinQ (F := F)),
    binary main_v25 main_v46 main_v50 joinC ]

/-- All the operations of @main, in order. -/
abbrev ops : List (HloOp τ sig (Elt F)) := opsA ++ (opsB ++ opsC)

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
/-- Every operation touches buffers of @main only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., nullary_bufs_sub .., unary_bufs_sub .., unary_bufs_sub .., binary_bufs_sub .., unary_bufs_sub .., unary_bufs_sub .., binary_bufs_sub .., unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., nullary_bufs_sub .., nullary_bufs_sub .., nullary_bufs_sub .., quaternary_bufs_sub .., quaternary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., binary_bufs_sub .., unary_bufs_sub .., ternary_bufs_sub .., unary_bufs_sub .., nullary_bufs_sub .., unary_bufs_sub .., binary_bufs_sub .., unary_bufs_sub .., binary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., ternary_bufs_sub .., unary_bufs_sub .., ternary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub ..⟩

end Cert.ReferenceIdeal.Hand

end
-- ==== Proof.RefRun.lean ====
/-
  The reference program's run: what each piece of its operations leaves in the buffers the next ones read, and from that
  what the two results hold at the end, the arguments unchanged.
-/
module

public import proofs.«01_k».proof.Proof.RefOps
public import Idealize.ShloMosaic.Lib.StableHlo.RunRead
public import Idealize.ShloMosaic.Lib.Pipeline.Frame

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 4000000

/-! ## The first piece -/

theorem A_c (V : Valuation τ sig (Elt F)) : after (opsA (F := F)) V (Proc.devRef .tc main_c)
    = semMask := by
  after_reads_simp
  try rfl

theorem A_c_0 (V : Valuation τ sig (Elt F)) : after (opsA (F := F)) V (Proc.devRef .tc main_c_0)
    = quantMask := by
  after_reads_simp
  try rfl

theorem A_c_1 (V : Valuation τ sig (Elt F)) : after (opsA (F := F)) V (Proc.devRef .tc main_c_1)
    = ditherMask := by
  after_reads_simp
  try rfl

theorem A_v0 (V : Valuation τ sig (Elt F)) : after (opsA (F := F)) V (Proc.devRef .tc main_v0)
    = sem (F := F) (V (Proc.devRef .tc main_arg0)) := by
  after_reads_simp
  try rfl

theorem A_v1 (V : Valuation τ sig (Elt F)) : after (opsA (F := F)) V (Proc.devRef .tc main_v1)
    = aco (F := F) (V (Proc.devRef .tc main_arg0)) := by
  after_reads_simp
  try rfl

theorem A_v5 (V : Valuation τ sig (Elt F)) : after (opsA (F := F)) V (Proc.devRef .tc main_v5)
    = emb (F := F) (V (Proc.devRef .tc main_arg1)) (V (Proc.devRef .tc main_arg2)) := by
  after_reads_simp
  try rfl

theorem A_v24 (V : Valuation τ sig (Elt F)) : after (opsA (F := F)) V (Proc.devRef .tc main_v24)
    = semCodes (F := F) (V (Proc.devRef .tc main_arg0)) (V (Proc.devRef .tc main_arg1)) (V (Proc.devRef .tc main_arg2)) := by
  after_reads_simp
  unfold semCodes codes dist d2 flat emb sem
  rfl

theorem A_arg0 (V : Valuation τ sig (Elt F)) : after (opsA (F := F)) V (Proc.devRef .tc main_arg0) = V (Proc.devRef .tc main_arg0) := by
  after_reads_simp

theorem A_arg1 (V : Valuation τ sig (Elt F)) : after (opsA (F := F)) V (Proc.devRef .tc main_arg1) = V (Proc.devRef .tc main_arg1) := by
  after_reads_simp

theorem A_arg2 (V : Valuation τ sig (Elt F)) : after (opsA (F := F)) V (Proc.devRef .tc main_arg2) = V (Proc.devRef .tc main_arg2) := by
  after_reads_simp

theorem A_arg3 (V : Valuation τ sig (Elt F)) : after (opsA (F := F)) V (Proc.devRef .tc main_arg3) = V (Proc.devRef .tc main_arg3) := by
  after_reads_simp

/-! ## The second piece -/

theorem B_v25 (V : Valuation τ sig (Elt F)) : after (opsB (F := F)) V (Proc.devRef .tc main_v25)
    = shapeCast S16x1x1024 (V (Proc.devRef .tc main_v24)) shapeCasts_S16384_S16x1x1024 := by
  after_reads_simp
  try rfl

theorem B_v31 (V : Valuation τ sig (Elt F)) : after (opsB (F := F)) V (Proc.devRef .tc main_v31)
    = semOut (F := F) (V (Proc.devRef .tc main_c)) (V (Proc.devRef .tc main_v0)) (quant (taken (V (Proc.devRef .tc main_v5)) (V (Proc.devRef .tc main_v24)))) := by
  simp only [opsB, TRef.binary, TRef.nullary, TRef.ternary, TRef.unary, TRef.toBuf, TRef.ofBuf, cast_eq]
  after_reads_simp
  unfold semOut quant taken rowOk rowOf
  rfl

theorem B_v1 (V : Valuation τ sig (Elt F)) : after (opsB (F := F)) V (Proc.devRef .tc main_v1) = V (Proc.devRef .tc main_v1) := by
  after_reads_simp

theorem B_c_0 (V : Valuation τ sig (Elt F)) : after (opsB (F := F)) V (Proc.devRef .tc main_c_0) = V (Proc.devRef .tc main_c_0) := by
  after_reads_simp

theorem B_c_1 (V : Valuation τ sig (Elt F)) : after (opsB (F := F)) V (Proc.devRef .tc main_c_1) = V (Proc.devRef .tc main_c_1) := by
  after_reads_simp

theorem B_arg0 (V : Valuation τ sig (Elt F)) : after (opsB (F := F)) V (Proc.devRef .tc main_arg0) = V (Proc.devRef .tc main_arg0) := by
  after_reads_simp

theorem B_arg1 (V : Valuation τ sig (Elt F)) : after (opsB (F := F)) V (Proc.devRef .tc main_arg1) = V (Proc.devRef .tc main_arg1) := by
  after_reads_simp

theorem B_arg2 (V : Valuation τ sig (Elt F)) : after (opsB (F := F)) V (Proc.devRef .tc main_arg2) = V (Proc.devRef .tc main_arg2) := by
  after_reads_simp

theorem B_arg3 (V : Valuation τ sig (Elt F)) : after (opsB (F := F)) V (Proc.devRef .tc main_arg3) = V (Proc.devRef .tc main_arg3) := by
  after_reads_simp

/-! ## The third piece -/

theorem C_v49 (V : Valuation τ sig (Elt F)) : after (opsC (F := F)) V (Proc.devRef .tc main_v49)
    = joinQ (F := F) (V (Proc.devRef .tc main_v31)) (znorm (zout (V (Proc.devRef .tc main_c_0)) (V (Proc.devRef .tc main_c_1)) (zb (V (Proc.devRef .tc main_v1))) (V (Proc.devRef .tc main_arg3)))) := by
  after_reads_simp
  try rfl

theorem C_v50 (V : Valuation τ sig (Elt F)) : after (opsC (F := F)) V (Proc.devRef .tc main_v50)
    = joinC (V (Proc.devRef .tc main_v25)) (acoCodes (F := F) (zout (V (Proc.devRef .tc main_c_0)) (V (Proc.devRef .tc main_c_1)) (zb (V (Proc.devRef .tc main_v1))) (V (Proc.devRef .tc main_arg3)))) := by
  after_reads_simp
  try rfl

theorem C_arg0 (V : Valuation τ sig (Elt F)) : after (opsC (F := F)) V (Proc.devRef .tc main_arg0) = V (Proc.devRef .tc main_arg0) := by
  after_reads_simp

theorem C_arg1 (V : Valuation τ sig (Elt F)) : after (opsC (F := F)) V (Proc.devRef .tc main_arg1) = V (Proc.devRef .tc main_arg1) := by
  after_reads_simp

theorem C_arg2 (V : Valuation τ sig (Elt F)) : after (opsC (F := F)) V (Proc.devRef .tc main_arg2) = V (Proc.devRef .tc main_arg2) := by
  after_reads_simp

theorem C_arg3 (V : Valuation τ sig (Elt F)) : after (opsC (F := F)) V (Proc.devRef .tc main_arg3) = V (Proc.devRef .tc main_arg3) := by
  after_reads_simp

/-! ## The run -/

/-- The whole line, piece by piece. -/
theorem after_ops (V : Valuation τ sig (Elt F)) :
    after (ops (F := F)) V = after (opsC (F := F)) (after (opsB (F := F)) (after (opsA (F := F)) V)) := by
  rw [after_append, after_append]

/-- What the line leaves at the first result. -/
theorem after_q (m : (ℓ : Loc nD τ sig) → Buf (Elt F) ℓ) (c : Dev nD) :
    after (ops (F := F)) (launchContents m c) (Proc.devRef .tc main_v49) = resQ (F := F) (m ((c.tc : Thread nD τ).loc main_arg0)) (m ((c.tc : Thread nD τ).loc main_arg1)) (m ((c.tc : Thread nD τ).loc main_arg2)) (m ((c.tc : Thread nD τ).loc main_arg3)) := by
  rw [after_ops, C_v49, B_v31, B_c_0, B_c_1, B_v1, B_arg3, A_c, A_c_0, A_c_1, A_v0, A_v1, A_v5, A_v24, A_arg3]
  rfl

/-- What the line leaves at the second result. -/
theorem after_c (m : (ℓ : Loc nD τ sig) → Buf (Elt F) ℓ) (c : Dev nD) :
    after (ops (F := F)) (launchContents m c) (Proc.devRef .tc main_v50) = resC (F := F) (m ((c.tc : Thread nD τ).loc main_arg0)) (m ((c.tc : Thread nD τ).loc main_arg1)) (m ((c.tc : Thread nD τ).loc main_arg2)) (m ((c.tc : Thread nD τ).loc main_arg3)) := by
  rw [after_ops, C_v50, B_v25, B_c_0, B_c_1, B_v1, B_arg3, A_c_0, A_c_1, A_v1, A_v24, A_arg3]
  rfl

/-- The line leaves argument 0 as it was. -/
theorem after_arg0 (m : (ℓ : Loc nD τ sig) → Buf (Elt F) ℓ) (c : Dev nD) :
    after (ops (F := F)) (launchContents m c) (Proc.devRef .tc main_arg0) = m ((c.tc : Thread nD τ).loc main_arg0) := by
  rw [after_ops, C_arg0, B_arg0, A_arg0]

/-- The line leaves argument 1 as it was. -/
theorem after_arg1 (m : (ℓ : Loc nD τ sig) → Buf (Elt F) ℓ) (c : Dev nD) :
    after (ops (F := F)) (launchContents m c) (Proc.devRef .tc main_arg1) = m ((c.tc : Thread nD τ).loc main_arg1) := by
  rw [after_ops, C_arg1, B_arg1, A_arg1]

/-- The line leaves argument 2 as it was. -/
theorem after_arg2 (m : (ℓ : Loc nD τ sig) → Buf (Elt F) ℓ) (c : Dev nD) :
    after (ops (F := F)) (launchContents m c) (Proc.devRef .tc main_arg2) = m ((c.tc : Thread nD τ).loc main_arg2) := by
  rw [after_ops, C_arg2, B_arg2, A_arg2]

/-- The line leaves argument 3 as it was. -/
theorem after_arg3 (m : (ℓ : Loc nD τ sig) → Buf (Elt F) ℓ) (c : Dev nD) :
    after (ops (F := F)) (launchContents m c) (Proc.devRef .tc main_arg3) = m ((c.tc : Thread nD τ).loc main_arg3) := by
  rw [after_ops, C_arg3, B_arg3, A_arg3]

/-- The run: every weakly fair execution of @main terminates with the two results at `resQ` and `resC` of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = resQ (F := F) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v50) = resC (F := F) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v49).trans (after_q m c), (h c main_v50).trans (after_c m c),
      (h c main_arg0).trans (after_arg0 m c),
      (h c main_arg1).trans (after_arg1 m c),
      (h c main_arg2).trans (after_arg2 m c),
      (h c main_arg3).trans (after_arg3 m c)⟩)
    (run_seq scopedRefs_eq scopedSems_eq defs main (fun _ => ops) main_eq (fun _ => ops_sub) m ρ)

/-- The frame: the arguments end unchanged, and no counter is ever raised, the program having none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2.2, funext fun s => nomatch s.2⟩) (run m ρ)

end Cert.ReferenceIdeal.Hand

end
-- ==== Proof.KIValue.lean ====
/-
  What the two results hold after the kernel's run, entry by entry: block by block what the grid point of the batch
  entry leaves, over the blocks of the arguments.
-/
module

public import proofs.«01_k».proof.Proof.KIFrame
public import Idealize.ShloMosaic.Lib.Pointwise
public import Idealize.ShloMosaic.Lib.Pipeline.ValueKit

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block a point takes of an array cut along the batch axis. -/
theorem index0 : ∀ t : Fin cfg0.N, win0_0.index t = ![t.val, 0, 0] := (by decide +kernel : ∀ t : Fin grid0.N, win0_0.index t = ![t.val, 0, 0])
theorem index1 : ∀ t : Fin cfg0.N, win0_1.index t = ![t.val, 0, 0] := (by decide +kernel : ∀ t : Fin grid0.N, win0_1.index t = ![t.val, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0, 0] := (by decide +kernel : ∀ t : Fin grid0.N, win0_5.index t = ![t.val, 0, 0])
theorem index6 : ∀ t : Fin cfg0.N, win0_6.index t = ![t.val, 0, 0] := (by decide +kernel : ∀ t : Fin grid0.N, win0_6.index t = ![t.val, 0, 0])

/-- The batch entry of a grid point. -/
def bat (t : Fin cfg0.N) : Fin 16 := ⟨t.val, lt_of_lt_of_eq t.isLt N_0⟩

/-- The input's block, entry by entry. -/
theorem iblk0_at (c : Dev nD) (t : Fin cfg0.N) (d : Fin 288) (k : Fin 1024) :
    iblk m c 0 t (ix3 (n0 := 1) 0 d k) = m ((c : Thread nD τ).loc main_arg0) (ix3 (bat t) d k) := by
  rw [← V_main_arg0 m c]
  blk_simp [iblk]
  refine congrArg _ ?_
  blk_ext [index0, bat]

theorem iblk1_at (c : Dev nD) (t : Fin cfg0.N) (d : Fin 32) (k : Fin 1024) :
    iblk m c 1 t (ix3 (n0 := 1) 0 d k) = m ((c : Thread nD τ).loc main_arg3) (ix3 (bat t) d k) := by
  rw [← V_main_arg3 m c]
  blk_simp [iblk]
  refine congrArg _ ?_
  blk_ext [index1, bat]

theorem iblk3_at (c : Dev nD) (t : Fin cfg0.N) (k : Fin 1024) (d : Fin 256) :
    iblk m c 3 t (ix2 k d) = m ((c : Thread nD τ).loc main_arg1) (ix2 k d) := by
  rw [← V_main_arg1 m c]
  blk_simp [iblk]
  refine congrArg _ ?_
  blk_ext [index3]

/-- The usage column the kernel is given: the vector of usages as one column. -/
theorem V_usage (c : Dev nD) :
    V m c main_v0 = (shapeCast S1024x1 (m ((c : Thread nD τ).loc main_arg2)) shapeCasts_S1024_S1024x1 : FVec F S1024x1 .f32) := by
  entry_read
  rfl

theorem V_masks (c : Dev nD) : V m c main_c = fun i => lit0 (S16x3.rowMajor i) := by
  entry_read
  try rfl

theorem iblk4_at (c : Dev nD) (t : Fin cfg0.N) (k : Fin 1024) :
    iblk m c 4 t (ix2 (n1 := 1) k 0) = m ((c : Thread nD τ).loc main_arg2) (ix1 k) := by
  have e : iblk m c 4 t (ix2 (n1 := 1) k 0) = V m c main_v0 (ix2 (n1 := 1) k 0) := by
    blk_simp [iblk]
    refine congrArg _ ?_
    blk_ext [index4]
  rw [e, V_usage]
  pointwise

theorem iblk2_at (c : Dev nD) (t : Fin cfg0.N) (k : Fin 16) (d : Fin 3) :
    iblk m c 2 t (ix2 k d) = lit0 (S16x3.rowMajor (ix2 k d)) := by
  have e : iblk m c 2 t (ix2 k d) = V m c main_c (ix2 k d) := by
    blk_simp [iblk]
    refine congrArg _ ?_
    blk_ext [index2]
  rw [e, V_masks]

theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- The first result, of its entries. -/
theorem final5 (c : Dev nD) (G : FVec F S16x288x1024 .f32)
    (h : ∀ (t : Fin cfg0.N) (d : Fin 288) (k : Fin 1024),
      blockQ (grid0.coords t) (iblk m c 0 t) (iblk m c 1 t) (iblk m c 2 t) (iblk m c 3 t) (iblk m c 4 t) (ix3 0 d k) = G (ix3 (bat t) d k)) :
    (dats m 0 c).arrAt 5 cfg0.N = G := by
  refine (dats m 0 c).arrAt_eq_of_covers 5 _ (by decide +kernel) fun t hf y => ?_
  blk_simp
  rw [after5]
  have ey : y = (ix3 (0 : Fin 1) (y 1 : Fin 288) (y 2 : Fin 1024) : S1x288x1024.Idx) := by
    funext a
    match a with
    | 0 => exact Subsingleton.elim (α := Fin 1) _ _
    | 1 => rfl
    | 2 => rfl
  have ee : (win0_5.blk t).view.emb y = ix3 (bat t) (y 1 : Fin 288) (y 2 : Fin 1024) := by
    rw [ey]
    blk_ext [index5, bat]
  rw [ee]
  refine Eq.trans ?_ (h t (y 1) (y 2))
  exact congrArg _ ey

/-- The second result, of its entries. -/
theorem final6 (c : Dev nD) (G : IVec S16x33x1024 32)
    (h : ∀ (t : Fin cfg0.N) (d : Fin 33) (k : Fin 1024),
      blockC (grid0.coords t) (iblk m c 0 t) (iblk m c 1 t) (iblk m c 2 t) (iblk m c 3 t) (iblk m c 4 t) (ix3 0 d k) = G (ix3 (bat t) d k)) :
    (dats m 0 c).arrAt 6 cfg0.N = G := by
  refine (dats m 0 c).arrAt_eq_of_covers 6 _ (by decide +kernel) fun t hf y => ?_
  blk_simp
  rw [after6]
  have ey : y = (ix3 (0 : Fin 1) (y 1 : Fin 33) (y 2 : Fin 1024) : S1x33x1024.Idx) := by
    funext a
    match a with
    | 0 => exact Subsingleton.elim (α := Fin 1) _ _
    | 1 => rfl
    | 2 => rfl
  have ee : (win0_6.blk t).view.emb y = ix3 (bat t) (y 1 : Fin 33) (y 2 : Fin 1024) := by
    rw [ey]
    blk_ext [index6, bat]
  rw [ee]
  refine Eq.trans ?_ (h t (y 1) (y 2))
  exact congrArg _ ey

section Blocks
variable (i : grid0.Coords) (x0 : Vec F S1x288x1024 .f32) (x1 : Vec F S1x32x1024 .f32) (x2 : Vec F S16x3 .i32)
  (x3 : Vec F S1024x256 .f32) (x4 : Vec F S1024x1 .f32)

/-- A block of the first output, entry by entry: the semantic channels … -/
theorem blockQ_upper (d : Fin 288) (k : Fin 1024) (hd : d.val < 256) :
    blockQ i x0 x1 x2 x3 x4 (ix3 0 d k) = upper i x0 x2 x3 x4 (ix3 0 ⟨d.val, hd⟩ k) := by
  have e : (ix3 (0 : Fin 1) d k : S1x288x1024.Idx) = rU.emb (ix3 0 ⟨d.val, hd⟩ k) := by blk_ext
  unfold blockQ
  rw [View.canon_cons_of_not_mem _ _ (fun hm => ?_), e, View.canon_cons_emb]
  have h1 : 256 ≤ d.val := ((Rect.mem_set_unit (inb := inb_S1x288x1024_S1x32x1024_0_256_0)).mp hm 1).1
  omega

/-- … and the acoustic ones. -/
theorem blockQ_lower (d : Fin 288) (k : Fin 1024) (hd : d.val - 256 < 32) (hd' : ¬ d.val < 256) :
    blockQ i x0 x1 x2 x3 x4 (ix3 0 d k) = lower i x0 x1 x2 (ix3 0 ⟨d.val - 256, hd⟩ k) := by
  have e : (ix3 (0 : Fin 1) d k : S1x288x1024.Idx) = rL.emb (ix3 0 ⟨d.val - 256, hd⟩ k) := by
    blk_ext
  unfold blockQ
  rw [e, View.canon_cons_emb]

/-- A block of the second output, entry by entry: the semantic codes … -/
theorem blockC_head (d : Fin 33) (k : Fin 1024) (hd : d.val < 1) :
    blockC i x0 x1 x2 x3 x4 (ix3 0 d k)
      = k0_pay1 (k0_pay12 (View.ld x0 rU) (k0_pay6 x3 x4) (k0_pay7 x3 x4) k0_pay3) (ix3 0 ⟨d.val, hd⟩ k) := by
  have e : (ix3 (0 : Fin 1) d k : S1x33x1024.Idx) = rH.emb (ix3 0 ⟨d.val, hd⟩ k) := by blk_ext
  unfold blockC
  rw [View.canon_cons_of_not_mem _ _ (fun hm => ?_), e, View.canon_cons_emb]
  have h1 : 1 ≤ d.val := ((Rect.mem_set_unit (inb := inb_S1x33x1024_S1x32x1024_0_1_0)).mp hm 1).1
  omega

/-- … and the acoustic ones. -/
theorem blockC_tail (d : Fin 33) (k : Fin 1024) (hd : d.val - 1 < 32) (hd' : ¬ d.val < 1) :
    blockC i x0 x1 x2 x3 x4 (ix3 0 d k)
      = k0_pay2 (k0_pay16 (k0_pay9 (View.ld x0 rL)) x1 (mw2 i x2) (mw3 i x2)) (ix3 0 ⟨d.val - 1, hd⟩ k) := by
  have e : (ix3 (0 : Fin 1) d k : S1x33x1024.Idx) = rT.emb (ix3 0 ⟨d.val - 1, hd⟩ k) := by
    blk_ext
  unfold blockC
  rw [e, View.canon_cons_emb]

/-- The semantic channels of an input block. -/
theorem ldU (d : Fin 256) (k : Fin 1024) :
    View.ld x0 rU (ix3 0 d k) = x0 (ix3 0 ⟨d.val, by omega⟩ k) :=
  View.ld_unit_apply_of x0 _ _ _ _ _ (by
    intro a
    match a with
    | 0 => rfl
    | 1 => exact (Nat.zero_add _).symm
    | 2 => exact (Nat.zero_add _).symm)

/-- The acoustic channels of an input block. -/
theorem ldL (d : Fin 32) (k : Fin 1024) :
    View.ld x0 rL (ix3 0 d k) = x0 (ix3 0 ⟨256 + d.val, by omega⟩ k) :=
  View.ld_unit_apply_of x0 _ _ _ _ _ (by
    intro a
    match a with
    | 0 => rfl
    | 1 => rfl
    | 2 => exact (Nat.zero_add _).symm)

end Blocks

/-- The mask words of a grid point: a row of the table. -/
theorem off1_at : ∀ t : Fin cfg0.N, k0_off1 (grid0.coords t) = ![t.val, 0] :=
  (by decide +kernel : ∀ t : Fin grid0.N, k0_off1 (grid0.coords t) = ![t.val, 0])
theorem off2_at : ∀ t : Fin cfg0.N, k0_off2 (grid0.coords t) = ![t.val, 1] :=
  (by decide +kernel : ∀ t : Fin grid0.N, k0_off2 (grid0.coords t) = ![t.val, 1])
theorem off3_at : ∀ t : Fin cfg0.N, k0_off3 (grid0.coords t) = ![t.val, 2] :=
  (by decide +kernel : ∀ t : Fin grid0.N, k0_off3 (grid0.coords t) = ![t.val, 2])

theorem wordAt_at (x2 : Vec F S16x3 .i32) (off : Fin 2 → ℕ) (inb : ∀ a, off a + S1x1.size a ≤ S16x3.size a)
    (b : Fin 16) (d : Fin 3) (h : off = ![b.val, d.val]) : wordAt x2 off inb = x2 (ix2 b d) := by
  subst h
  exact View.ld_unit_apply_of x2 _ _ _ _ _ (by
    intro a
    match a with
    | 0 => rfl
    | 1 => rfl)

theorem mw1_at (c : Dev nD) (t : Fin cfg0.N) :
    mw1 (grid0.coords t) (iblk m c 2 t) = lit0 (S16x3.rowMajor (ix2 (bat t) 0)) :=
  (wordAt_at (iblk m c 2 t) _ _ (bat t) 0 (off1_at t)).trans (iblk2_at m c t _ _)
theorem mw2_at (c : Dev nD) (t : Fin cfg0.N) :
    mw2 (grid0.coords t) (iblk m c 2 t) = lit0 (S16x3.rowMajor (ix2 (bat t) 1)) :=
  (wordAt_at (iblk m c 2 t) _ _ (bat t) 1 (off2_at t)).trans (iblk2_at m c t _ _)
theorem mw3_at (c : Dev nD) (t : Fin cfg0.N) :
    mw3 (grid0.coords t) (iblk m c 2 t) = lit0 (S16x3.rowMajor (ix2 (bat t) 2)) :=
  (wordAt_at (iblk m c 2 t) _ _ (bat t) 2 (off3_at t)).trans (iblk2_at m c t _ _)

end Cert.KernelIdeal.Hand

end
-- ==== Proof.FirstMin.lean ====
/-
  The first index at which a finite family of numbers is least, and two ways of computing it: by a running minimum of
  (value, index) pairs in any order, and by the minimum of the indices of the least values.
-/
module

public import proofs.«01_k».proof.Proof.Gen.ReferenceIdeal
public import Idealize.ShloMosaic.PureOps.Ideal.Laws
public import Idealize.ShloMosaic.Lib.Pointwise
public import Idealize.ShloMosaic.Lib.StableHlo.Predicate

@[expose] public section

noncomputable section

namespace Cert.Quant

open Idealize.ShloMosaic

/-- There is a first index at which `D` is least. -/
theorem exists_first {n : ℕ} [NeZero n] (D : Fin n → ℝ) : ∃ k, (∀ j, D k ≤ D j) ∧ ∀ j, D j = D k → k ≤ j := by
  classical
  obtain ⟨a, ha⟩ := Finite.exists_min D
  have hne : (Finset.univ.filter fun k => D k = D a).Nonempty := ⟨a, by simp⟩
  refine ⟨(Finset.univ.filter fun k => D k = D a).min' hne, ?_, ?_⟩
  · have := (Finset.mem_filter.1 (Finset.min'_mem _ hne)).2
    intro j; rw [this]; exact ha j
  · intro j hj
    have := (Finset.mem_filter.1 (Finset.min'_mem _ hne)).2
    exact Finset.min'_le (Finset.univ.filter fun k => D k = D a) j (Finset.mem_filter.2 ⟨Finset.mem_univ j, hj.trans this⟩)

/-- The first index at which `D` is least. -/
def first {n : ℕ} [NeZero n] (D : Fin n → ℝ) : Fin n := (exists_first D).choose

theorem first_le {n : ℕ} [NeZero n] (D : Fin n → ℝ) (j : Fin n) : D (first D) ≤ D j := (exists_first D).choose_spec.1 j

theorem first_least {n : ℕ} [NeZero n] (D : Fin n → ℝ) (j : Fin n) (h : D j = D (first D)) : first D ≤ j :=
  (exists_first D).choose_spec.2 j h

/-! ## By minima -/

/-- A minimum over all indices, from the top, is the value at an index where it is least. -/
theorem fold_min_eq {n : ℕ} (f : Fin n → EReal) (k : Fin n) (h : ∀ j, f k ≤ f j) :
    Finset.univ.fold min (⊤ : EReal) f = f k := by
  refine le_antisymm ?_ ?_
  · exact (Finset.fold_min_le (f k)).2 (Or.inr ⟨k, Finset.mem_univ _, le_rfl⟩)
  · exact (Finset.le_fold_min (f k)).2 ⟨le_top, fun x _ => h x⟩

/-- The minimum of the numbers themselves. -/
theorem fold_min_first {n : ℕ} [NeZero n] (D : Fin n → ℝ) :
    Finset.univ.fold min (⊤ : EReal) (fun k => (D k : EReal)) = (D (first D) : EReal) :=
  fold_min_eq _ (first D) fun j => EReal.coe_le_coe_iff.2 (first_le D j)

/-- The minimum of the indices of the least numbers, every other index replaced by a number above all of them. -/
theorem fold_index_first {n : ℕ} [NeZero n] (D : Fin n → ℝ) (c : ℝ) (hc : ∀ k : Fin n, ((k.val : ℕ) : ℝ) < c) :
    Finset.univ.fold min (⊤ : EReal)
        (fun k => if (D k : EReal) = (D (first D) : EReal) then (((k.val : ℕ) : ℝ) : EReal) else (c : EReal))
      = ((((first D).val : ℕ) : ℝ) : EReal) := by
  rw [fold_min_eq _ (first D)]
  · rw [if_pos rfl]
  · intro j
    rw [if_pos rfl]
    split_ifs with h
    · exact EReal.coe_le_coe_iff.2 (by exact_mod_cast first_least D j (EReal.coe_eq_coe_iff.1 h))
    · exact EReal.coe_le_coe_iff.2 (hc _).le

/-- Of those entries only the one at the first index equals that minimum. -/
theorem index_eq_first_iff {n : ℕ} [NeZero n] (D : Fin n → ℝ) (c : ℝ) (hc : ∀ k : Fin n, ((k.val : ℕ) : ℝ) < c) (k : Fin n) :
    (if (D k : EReal) = (D (first D) : EReal) then (((k.val : ℕ) : ℝ) : EReal) else (c : EReal))
        = ((((first D).val : ℕ) : ℝ) : EReal) ↔ k = first D := by
  constructor
  · intro h
    split_ifs at h with h'
    · exact Fin.ext (by exact_mod_cast EReal.coe_eq_coe_iff.1 h)
    · exact absurd (EReal.coe_eq_coe_iff.1 h) (ne_of_gt (hc _))
  · rintro rfl
    rw [if_pos rfl]

/-! ## By a running minimum of pairs -/

/-- The order of the pairs: by value, then by index read signed. -/
def Le (p q : EReal × BitVec 32) : Prop := p.1 < q.1 ∨ (p.1 = q.1 ∧ p.2.toInt ≤ q.2.toInt)

theorem Le.refl (p : EReal × BitVec 32) : Le p p := Or.inr ⟨rfl, le_rfl⟩

theorem Le.trans {p q r : EReal × BitVec 32} (h : Le p q) (h' : Le q r) : Le p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem one_or : ∀ x : BitVec 1, 1#1 ||| x = 1#1 := by decide

/-- One step keeps one of its two pairs. -/
theorem step_mem (a b : EReal × BitVec 32) :
    Cert.ReferenceIdeal.reducer_argmin_f32_i32 (F := Ideal) a b = a ∨ Cert.ReferenceIdeal.reducer_argmin_f32_i32 (F := Ideal) a b = b := by
  obtain ⟨a1, a2⟩ := a
  obtain ⟨b1, b2⟩ := b
  simp only [Cert.ReferenceIdeal.reducer_argmin_f32_i32, Ideal.cmpf_def, Ideal.cmp, IntOp.cmpi, IntOp.ori, IntOp.andi, Scalar.select]
  by_cases h : a1 < b1
  · simp [h, one_or]
  · by_cases h' : a1 = b1
    · subst h'
      by_cases h2 : a2.slt b2 <;> simp [h2]
    · simp [h, h']

/-- … and that pair is at most either. -/
theorem step_le (a b : EReal × BitVec 32) :
    Le (Cert.ReferenceIdeal.reducer_argmin_f32_i32 (F := Ideal) a b) a ∧ Le (Cert.ReferenceIdeal.reducer_argmin_f32_i32 (F := Ideal) a b) b := by
  obtain ⟨a1, a2⟩ := a
  obtain ⟨b1, b2⟩ := b
  simp only [Cert.ReferenceIdeal.reducer_argmin_f32_i32, Ideal.cmpf_def, Ideal.cmp, IntOp.cmpi, IntOp.ori, IntOp.andi, Scalar.select, Le]
  by_cases h : a1 < b1
  · simp [h, one_or]
  · by_cases h' : a1 = b1
    · subst h'
      by_cases h2 : a2.slt b2
      · have := (BitVec.slt_iff_toInt_lt).1 h2
        simp [h2]; omega
      · have : ¬ a2.toInt < b2.toInt := fun h => h2 ((BitVec.slt_iff_toInt_lt).2 h)
        simp [h2]; omega
    · have : b1 < a1 := lt_of_le_of_ne (not_lt.1 h) (Ne.symm h')
      simp [h, h', this]

/-- The running minimum is one of the pairs and is at most each of them. -/
theorem foldl_step (L : List (EReal × BitVec 32)) : ∀ a : EReal × BitVec 32,
    (L.foldl (Cert.ReferenceIdeal.reducer_argmin_f32_i32 (F := Ideal)) a = a
      ∨ L.foldl (Cert.ReferenceIdeal.reducer_argmin_f32_i32 (F := Ideal)) a ∈ L)
    ∧ Le (L.foldl (Cert.ReferenceIdeal.reducer_argmin_f32_i32 (F := Ideal)) a) a
    ∧ ∀ q ∈ L, Le (L.foldl (Cert.ReferenceIdeal.reducer_argmin_f32_i32 (F := Ideal)) a) q := by
  induction L with
  | nil => intro a; exact ⟨Or.inl rfl, Le.refl a, fun q hq => nomatch hq⟩
  | cons b L ih =>
    intro a
    obtain ⟨h1, h2, h3⟩ := ih (Cert.ReferenceIdeal.reducer_argmin_f32_i32 (F := Ideal) a b)
    obtain ⟨s1, s2⟩ := step_le a b
    rw [List.foldl_cons]
    refine ⟨?_, h2.trans s1, ?_⟩
    · rcases h1 with h1 | h1
      · rcases step_mem a b with e | e
        · exact Or.inl (h1.trans e)
        · exact Or.inr (List.mem_cons.2 (Or.inl (h1.trans e)))
      · exact Or.inr (List.mem_cons_of_mem _ h1)
    · intro q hq
      rcases List.mem_cons.1 hq with rfl | hq
      · exact h2.trans s2
      · exact h3 q hq

/-- Over pairs of a family of numbers and their indices, from the top, it ends at the first index where they are least. -/
theorem foldl_first {n : ℕ} [NeZero n] (hn : n ≤ 2 ^ 31) (D : Fin n → ℝ) (L : List (EReal × BitVec 32))
    (hL : ∀ q, q ∈ L ↔ ∃ k : Fin n, q = ((D k : EReal), BitVec.ofNat 32 k.val)) :
    (L.foldl (Cert.ReferenceIdeal.reducer_argmin_f32_i32 (F := Ideal)) ((⊤ : EReal), 0#32)).2 = BitVec.ofNat 32 (first D).val := by
  obtain ⟨h1, h2, h3⟩ := foldl_step L ((⊤ : EReal), 0#32)
  generalize L.foldl (Cert.ReferenceIdeal.reducer_argmin_f32_i32 (F := Ideal)) ((⊤ : EReal), 0#32) = p at h1 h2 h3
  have hf := h3 _ ((hL _).2 ⟨first D, rfl⟩)
  have hp : p ∈ L := by
    rcases h1 with rfl | h
    · exfalso
      rcases hf with hf | ⟨hf, _⟩
      · exact absurd hf (not_lt.2 le_top)
      · exact absurd hf.symm (EReal.coe_ne_top _)
    · exact h
  obtain ⟨k, rfl⟩ := (hL p).1 hp
  have tk := StableHlo.Predicate.toInt_ofNat_small k.val (lt_of_lt_of_le k.isLt hn)
  have tf := StableHlo.Predicate.toInt_ofNat_small (first D).val (lt_of_lt_of_le (first D).isLt hn)
  rcases hf with hf | ⟨hf, hi⟩
  · exact absurd (EReal.coe_lt_coe_iff.1 hf) (not_lt.2 (first_le D k))
  · have := first_least D k (EReal.coe_eq_coe_iff.1 hf)
    simp only [tk, tf] at hi
    show BitVec.ofNat 32 k.val = _
    rw [le_antisymm (show k ≤ first D from by exact_mod_cast hi) this]

end Cert.Quant

end
-- ==== Proof.Distance.lean ====
/-
  Squared distances over the reals: the three-term form in which both programs write them, a codebook row that is real
  whatever its usage count, and the sum by which a kernel picks one row out of the codebook.
-/
module

public import proofs.«01_k».proof.Proof.FirstMin

@[expose] public section

noncomputable section

open scoped BigOperators

namespace Cert.Quant

open Idealize.ShloMosaic

/-! ## Four constants -/

theorem const_neg_two : Ideal.ofBits .f32 3221225472#32 = ((-2 : ℝ) : EReal) := by
  simp [Ideal.ofBits, Ideal.ieee, -EReal.coe_mul, -EReal.coe_neg]; norm_num

theorem const_two : Ideal.ofBits .f32 1073741824#32 = ((2 : ℝ) : EReal) := by
  simp [Ideal.ofBits, Ideal.ieee, -EReal.coe_mul]; norm_num

/-- The kernel's filler index, above every codebook row. -/
theorem const_filler : Ideal.ofBits .f32 1317011456#32 = ((1073741824 : ℝ) : EReal) := by
  simp [Ideal.ofBits, Ideal.ieee, -EReal.coe_mul]; norm_num

theorem const_inf : Ideal.ofBits .f32 2139095040#32 = (⊤ : EReal) := by
  simp [Ideal.ofBits, Ideal.ieee]

/-- The least usage count is a positive real. -/
theorem const_eps : ∃ p : ℝ, 0 < p ∧ Ideal.ofBits .f32 925353388#32 = (p : EReal) := by
  refine ⟨10995116 * (2 : ℝ) ^ (-40 : ℤ), by positivity, ?_⟩
  simp [Ideal.ofBits, Ideal.ieee, -EReal.coe_mul]

/-! ## Sums of reals -/

theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- A real over a usage count, clipped from below at a positive real, is a real. -/
theorem div_real (x p : ℝ) (hp : 0 < p) (u : EReal) : ∃ e : ℝ, Ideal.div (x : EReal) (max (p : EReal) u) = (e : EReal) := by
  induction u using EReal.rec with
  | bot =>
    rw [max_eq_left bot_le, Ideal.div_coe hp.ne']
    exact ⟨x * (1 / p), (EReal.coe_mul _ _).symm⟩
  | top =>
    refine ⟨0, ?_⟩
    rw [max_eq_right le_top]
    unfold Ideal.div
    rw [if_neg (by simp), EReal.inv_top, mul_zero, EReal.coe_zero]
  | coe r =>
    have h : max (p : EReal) (r : EReal) = ((max p r : ℝ) : EReal) := (EReal.coe_strictMono.monotone.map_max).symm
    rw [h, Ideal.div_coe (lt_of_lt_of_le hp (le_max_left p r)).ne']
    exact ⟨x * (1 / max p r), (EReal.coe_mul _ _).symm⟩

variable {n : ℕ}

/-- The squared distance of two rows. -/
def sqd (X E : Fin n → ℝ) : ℝ := ∑ d, (X d - E d) * (X d - E d)

theorem sqd_nonneg (X E : Fin n → ℝ) : 0 ≤ sqd X E := Finset.sum_nonneg fun d _ => mul_self_nonneg _

theorem sqd_eq (X E : Fin n → ℝ) : sqd X E = (∑ d, X d * X d) + (∑ d, E d * E d) - 2 * ∑ d, X d * E d := by
  unfold sqd
  rw [Finset.mul_sum, ← Finset.sum_add_distrib, ← Finset.sum_sub_distrib]
  exact Finset.sum_congr rfl fun d _ => by ring

/-- The kernel's form: the cross term with the factor -2 inside it. -/
theorem sqd_kernel (X E : Fin n → ℝ) :
    (∑ d, (X d : EReal) * (X d : EReal)) + (∑ d, (E d : EReal) * (E d : EReal))
      + (∑ d, (((-2 : ℝ) : EReal) * (E d : EReal)) * (X d : EReal)) = ((sqd X E : ℝ) : EReal) := by
  simp only [← EReal.coe_mul, ← coe_sum, ← EReal.coe_add]
  rw [sqd_eq, EReal.coe_eq_coe_iff, sub_eq_add_neg, Finset.mul_sum, ← Finset.sum_neg_distrib]
  refine congrArg _ (Finset.sum_congr rfl fun d _ => by ring)

/-- The reference's form: twice the cross term taken away. -/
theorem sqd_host (X E : Fin n → ℝ) :
    (∑ d, (X d : EReal) * (X d : EReal)) + (∑ d, (E d : EReal) * (E d : EReal))
      - ((2 : ℝ) : EReal) * (∑ d, (X d : EReal) * (E d : EReal)) = ((sqd X E : ℝ) : EReal) := by
  simp only [← EReal.coe_mul, ← coe_sum, ← EReal.coe_add, ← EReal.coe_sub]
  rw [sqd_eq]

/-- The first least value is where it was after a change of scale that keeps the order. -/
theorem first_eq_of_le_iff [NeZero n] (D D' : Fin n → ℝ) (h : ∀ i j, D i ≤ D j ↔ D' i ≤ D' j) : first D = first D' := by
  have h1 : D' (first D) = D' (first D') :=
    le_antisymm ((h _ _).mp (first_le D _)) (first_le D' _)
  have h2 : D (first D') = D (first D) :=
    le_antisymm ((h _ _).mpr (first_le D' _)) (first_le D _)
  exact le_antisymm (first_least D _ h2) (first_least D' _ h1)

theorem first_sqrt [NeZero n] (D : Fin n → ℝ) (h : ∀ k, 0 ≤ D k) : first (fun k => Real.sqrt (D k)) = first D :=
  first_eq_of_le_iff _ _ fun i j => Real.sqrt_le_sqrt_iff (h j)

/-- Picking one row out of the codebook by a sum against a row of zeros and one 1. -/
theorem pick_row (E : Fin n → ℝ) (b : Fin n → EReal) (c : Fin n) (h : ∀ x, b x = if x = c then 1 else 0) :
    ∑ x, (E x : EReal) * b x = (E c : EReal) := by
  rw [Finset.sum_eq_single c]
  · rw [h, if_pos rfl, mul_one]
  · intro x _ hx
    rw [h, if_neg hx, mul_zero]
  · intro hc
    exact absurd (Finset.mem_univ _) hc

end Cert.Quant

end
-- ==== Proof.KISem.lean ====
/-
  The kernel's semantic channels, entry by entry, where the input's semantic channels and the codebook are real: the code
  is the first least squared distance, and the decoded channels are that row of the codebook.
-/
module

public import proofs.«01_k».proof.Proof.KIBlock
public import proofs.«01_k».proof.Proof.Distance
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem Cert.Quant

variable (es : FVec Ideal S1024x256 .f32) (cu : FVec Ideal S1024x1 .f32) (v : FVec Ideal S1x256x1024 .f32)

theorem pay4_at (k : Fin 1024) (d : Fin 256) :
    k0_pay4 (F := Ideal) es cu (ix2 k d) = Ideal.div (es (ix2 k d)) (max (Ideal.ofBits .f32 925353388#32) (cu (ix2 (n1 := 1) k 0))) := by
  pointwise [k0_pay4]

theorem pay5_at (k : Fin 1024) (d : Fin 256) :
    k0_pay5 (F := Ideal) es cu (ix2 k d) = Ideal.div (es (ix2 k d)) (max (Ideal.ofBits .f32 925353388#32) (cu (ix2 (n1 := 1) k 0))) := by
  pointwise [k0_pay5, k0_pay4]

theorem pay6_at (k : Fin 1024) (d : Fin 256) :
    k0_pay6 (F := Ideal) es cu (ix2 k d) = Ideal.ofBits .f32 3221225472#32 * k0_pay4 (F := Ideal) es cu (ix2 k d) := by
  pointwise [k0_pay6]

theorem pay7_at (k : Fin 1024) :
    k0_pay7 (F := Ideal) es cu (ix2 (n1 := 1) k 0) = ∑ x : Fin 256, k0_pay4 (F := Ideal) es cu (ix2 k x) * k0_pay4 (F := Ideal) es cu (ix2 k x) := by
  pointwise [k0_pay7]

theorem pay3_at (k t : Fin 1024) :
    (k0_pay3 (F := Ideal)) (ix2 k t) = (((k.val : ℕ) : ℝ) : EReal) := by
  have h : (k0_pay3 (F := Ideal)) (ix2 k t) = FloatOps.sitofp (F := Ideal) .f32 (BitVec.ofNat 32 k.val) := by
    pointwise [k0_pay3]
  rw [h]
  show (((BitVec.ofNat 32 k.val).toInt : ℝ) : EReal) = _
  have hk : (BitVec.ofNat 32 k.val).toInt = (k.val : ℤ) := by
    have := k.isLt
    rw [BitVec.toInt_eq_toNat_of_lt] <;> rw [BitVec.toNat_ofNat] <;> omega
  rw [hk, Int.cast_natCast]

variable (X : Fin 256 → Fin 1024 → ℝ) (E : Fin 1024 → Fin 256 → ℝ)
  (hX : ∀ d t, v (ix3 (n0 := 1) 0 d t) = (X d t : EReal))
  (hE : ∀ k d, Ideal.div (es (ix2 k d)) (max (Ideal.ofBits .f32 925353388#32) (cu (ix2 (n1 := 1) k 0))) = (E k d : EReal))

/-- The squared distance of a frame to a codebook row. -/
def dst (t k : Fin 1024) : ℝ := sqd (fun d => X d t) (E k)

include hX hE in
/-- A squared distance, as the kernel computes it. -/
theorem kd (k t : Fin 1024) :
    (∑ x : Fin 256, v (ix3 (n0 := 1) 0 x t) * v (ix3 (n0 := 1) 0 x t)) + k0_pay7 (F := Ideal) es cu (ix2 (n1 := 1) k 0)
      + (∑ x : Fin 256, k0_pay6 (F := Ideal) es cu (ix2 k x) * v (ix3 (n0 := 1) 0 x t)) = ((dst X E t k : ℝ) : EReal) := by
  simp only [pay7_at, pay6_at, pay4_at, hX, hE, const_neg_two]
  exact sqd_kernel (fun d => X d t) (E k)

theorem pay10_at (v10 : FVec Ideal S1024x256 .f32) (v12 : FVec Ideal S1024x1 .f32) (v21 : FVec Ideal S1024x1024 .f32) (k t : Fin 1024) :
    k0_pay10 (F := Ideal) v v10 v12 v21 (ix2 k t)
      = if (∑ x : Fin 256, v (ix3 (n0 := 1) 0 x t) * v (ix3 (n0 := 1) 0 x t)) + v12 (ix2 (n1 := 1) k 0)
            + (∑ x : Fin 256, v10 (ix2 k x) * v (ix3 (n0 := 1) 0 x t))
          = Finset.fold min (Ideal.ofBits .f32 2139095040#32) (fun j : Fin 1024 =>
              (∑ x : Fin 256, v (ix3 (n0 := 1) 0 x t) * v (ix3 (n0 := 1) 0 x t)) + v12 (ix2 (n1 := 1) j 0)
                + (∑ x : Fin 256, v10 (ix2 j x) * v (ix3 (n0 := 1) 0 x t))) Finset.univ
        then v21 (ix2 k t) else Ideal.ofBits .f32 1317011456#32 := by
  pointwise [k0_pay10, k0_pay8]

include hX hE in
/-- The index where the least distance is, and the filler elsewhere. -/
theorem pay10_first (k t : Fin 1024) :
    k0_pay10 (F := Ideal) v (k0_pay6 (F := Ideal) es cu) (k0_pay7 (F := Ideal) es cu) (k0_pay3 (F := Ideal)) (ix2 k t)
      = if ((dst X E t k : ℝ) : EReal) = ((dst X E t (first (dst X E t)) : ℝ) : EReal)
        then (((k.val : ℕ) : ℝ) : EReal) else ((1073741824 : ℝ) : EReal) := by
  rw [pay10_at]
  simp only [kd es cu v X E hX hE]
  rw [const_inf, const_filler, pay3_at, fold_min_first]

theorem pay11_at (v10 : FVec Ideal S1024x256 .f32) (v12 : FVec Ideal S1024x1 .f32) (v21 : FVec Ideal S1024x1024 .f32) (t : Fin 1024) :
    k0_pay11 (F := Ideal) v v10 v12 v21 (ix2 (n0 := 1) 0 t)
      = Finset.fold min (Ideal.ofBits .f32 2139095040#32) (fun x : Fin 1024 => k0_pay10 (F := Ideal) v v10 v12 v21 (ix2 x t)) Finset.univ := by
  pointwise [k0_pay11]

theorem lt_filler (k : Fin 1024) : ((k.val : ℕ) : ℝ) < (1073741824 : ℝ) := by
  have h : (k.val : ℝ) < 1024 := by exact_mod_cast k.isLt
  linarith [show (1024 : ℝ) ≤ 1073741824 by norm_num]

include hX hE in
theorem pay11_first (t : Fin 1024) :
    k0_pay11 (F := Ideal) v (k0_pay6 (F := Ideal) es cu) (k0_pay7 (F := Ideal) es cu) (k0_pay3 (F := Ideal)) (ix2 (n0 := 1) 0 t)
      = ((((first (dst X E t)).val : ℕ) : ℝ) : EReal) := by
  rw [pay11_at, const_inf]
  simp only [pay10_first es cu v X E hX hE]
  exact fold_index_first (dst X E t) 1073741824 lt_filler

/-- A small natural number, read back as an integer. -/
theorem fptosi_nat (a : ℕ) (h : a < 2 ^ 31) : FloatOps.fptosi (F := Ideal) (φ := .f32) 32 (((a : ℕ) : ℝ) : EReal) = BitVec.ofNat 32 a := by
  show BitVec.ofInt 32 (Ideal.toIntClamped (-(2 ^ 31 : ℕ)) ((2 ^ 31 : ℕ) - 1) (((a : ℕ) : ℝ) : EReal)) = _
  have e : Ideal.toIntClamped (-(2 ^ 31 : ℕ)) ((2 ^ 31 : ℕ) - 1) (((a : ℕ) : ℝ) : EReal) = (a : ℤ) := by
    show max _ (min _ (if 0 ≤ (a : ℝ) then ⌊(a : ℝ)⌋ else ⌈(a : ℝ)⌉)) = (a : ℤ)
    rw [if_pos (Nat.cast_nonneg a), Int.floor_natCast]
    omega
  rw [e, BitVec.ofInt_natCast]

theorem pay12_at (v10 : FVec Ideal S1024x256 .f32) (v12 : FVec Ideal S1024x1 .f32) (v21 : FVec Ideal S1024x1024 .f32) (k l : Fin 1) (t : Fin 1024) :
    k0_pay1 (k0_pay12 (F := Ideal) v v10 v12 v21) (ix3 k l t) = FloatOps.fptosi (F := Ideal) 32 (k0_pay11 (F := Ideal) v v10 v12 v21 (ix2 (n0 := 1) 0 t)) := by
  pointwise [k0_pay1, k0_pay12]

include hX hE in
/-- The semantic code. -/
theorem code_at (k l : Fin 1) (t : Fin 1024) :
    k0_pay1 (k0_pay12 (F := Ideal) v (k0_pay6 (F := Ideal) es cu) (k0_pay7 (F := Ideal) es cu) (k0_pay3 (F := Ideal))) (ix3 k l t) = BitVec.ofNat 32 (first (dst X E t)).val := by
  rw [pay12_at, pay11_first es cu v X E hX hE]
  exact fptosi_nat _ (lt_of_lt_of_le (first (dst X E t)).isLt (by decide))

theorem pay13_at (v10 : FVec Ideal S1024x256 .f32) (v12 : FVec Ideal S1024x1 .f32) (v21 : FVec Ideal S1024x1024 .f32)
    (v79 : FVec Ideal S1024x256 .f32) (d : Fin 256) (t : Fin 1024) :
    k0_pay13 (F := Ideal) v v10 v12 v21 v79 (ix3 (n0 := 1) 0 d t)
      = v (ix3 (n0 := 1) 0 d t) + ((∑ x : Fin 1024, v79 (ix2 x d) * FloatOps.sitofp (F := Ideal) .f32 (BitVec.setWidth 32
          (BitVec.ofBool (decide (k0_pay10 (F := Ideal) v v10 v12 v21 (ix2 x t) = k0_pay11 (F := Ideal) v v10 v12 v21 (ix2 (n0 := 1) 0 t))))))
        - v (ix3 (n0 := 1) 0 d t)) := by
  pointwise [k0_pay13, k0_pay8]

theorem bit_real (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · rw [if_pos h, decide_eq_true h]
    have e : (BitVec.setWidth 32 (BitVec.ofBool true)).toInt = 1 := by decide
    rw [e, Int.cast_one, EReal.coe_one]
  · rw [if_neg h, decide_eq_false h]
    have e : (BitVec.setWidth 32 (BitVec.ofBool false)).toInt = 0 := by decide
    rw [e, Int.cast_zero, EReal.coe_zero]

include hX hE in
/-- The decoded channels: the codebook's row at the code, passed straight through. -/
theorem decoded_at (d : Fin 256) (t : Fin 1024) :
    k0_pay13 (F := Ideal) v (k0_pay6 (F := Ideal) es cu) (k0_pay7 (F := Ideal) es cu) (k0_pay3 (F := Ideal)) (k0_pay5 (F := Ideal) es cu) (ix3 (n0 := 1) 0 d t)
      = (X d t : EReal) + ((E (first (dst X E t)) d : EReal) - (X d t : EReal)) := by
  rw [pay13_at]
  simp only [pay5_at, hE, hX, bit_real, pay11_first es cu v X E hX hE, pay10_first es cu v X E hX hE]
  rw [pick_row (fun x => E x d) _ (first (dst X E t))]
  intro x
  exact if_congr (index_eq_first_iff (dst X E t) 1073741824 lt_filler x) rfl rfl

theorem pass_at (d : Fin 256) (t : Fin 1024) :
    k0_pay14 (F := Ideal) (k0_pay8 (F := Ideal) v) (ix3 (n0 := 1) 0 d t) = v (ix3 (n0 := 1) 0 d t) := by
  pointwise [k0_pay14, k0_pay8]

end Cert.KernelIdeal.Hand

end
-- ==== Proof.RefSem.lean ====
/-
  The reference's semantic channels, entry by entry, where the input's semantic channels and the codebook are real: a
  row's code is the first least squared distance, and the row taken is that row of the codebook.
-/
module

public import proofs.«01_k».proof.Proof.RefStages
public import proofs.«01_k».proof.Proof.Distance
public import Idealize.ShloMosaic.Lib.Pointwise
public import Idealize.ShloMosaic.Lib.ReduceAll

@[expose] public section

noncomputable section

namespace Cert.ReferenceIdeal.Hand

open Cert.ReferenceIdeal Cert.ReferenceIdeal.Gen Idealize.ShloMosaic Idealize.ShloMosaic.TcCoe Idealize.SL.Sem Cert.Quant

variable (x : FVec Ideal S16384x256 .f32) (e : FVec Ideal S1024x256 .f32)

theorem emb_at (es : FVec Ideal S1024x256 .f32) (cu : FVec Ideal S1024 .f32) (k : Fin 1024) (d : Fin 256) :
    emb (F := Ideal) es cu (ix2 k d) = Ideal.div (es (ix2 k d)) (max (Ideal.ofBits .f32 925353388#32) (cu (ix1 k))) := by
  pointwise [emb]
  rfl

theorem d2_at (r : Fin 16384) (k : Fin 1024) :
    d2 (F := Ideal) x e (ix2 r k)
      = (∑ d : Fin 256, x (ix2 r d) * x (ix2 r d)) + (∑ d : Fin 256, e (ix2 k d) * e (ix2 k d))
        - Ideal.ofBits .f32 1073741824#32 * ∑ d : Fin 256, x (ix2 r d) * e (ix2 k d) := by
  pointwise [d2]

theorem dist_at (d : FVec Ideal S16384x1024 .f32) (r : Fin 16384) (k : Fin 1024) :
    dist (F := Ideal) d (ix2 r k) = Ideal.sqrt (max (0 : EReal) (d (ix2 r k))) := by
  pointwise [dist]
  show Ideal.sqrt (max (Ideal.ofBits .f32 0x00000000#32) (d (ix2 r k))) = _
  rw [Ideal.ofBits_zero_f32]

theorem sqrt_real (a : ℝ) (h : 0 ≤ a) : Ideal.sqrt (max (0 : EReal) (a : EReal)) = ((Real.sqrt a : ℝ) : EReal) := by
  rw [max_eq_right (EReal.coe_nonneg.2 h), Ideal.sqrt_coe, if_neg (not_lt.2 h)]

/-- The pairs over which one row's code is computed. -/
theorem drop_row (h : S16384x1024.ReducesTo [1] S16384) (i : S16384x1024.Idx) (r : Fin 16384) :
    h.drop i = ix1 r ↔ i 0 = r := by
  have hv : (h.drop i 0 : Nat) = i 0 := Shape.ReducesTo.drop_apply_val h i 0
  constructor
  · intro e
    rw [e] at hv
    exact Fin.ext hv.symm
  · intro e
    funext b
    have hb : b = 0 := Subsingleton.elim _ _
    subst hb
    exact Fin.ext (by rw [hv, e]; rfl)

theorem mem_fiber {α β : Type} {s t : Shape} {axes : List (Fin s.rank)} (x : s.Idx → α) (y : s.Idx → β)
    (h : s.ReducesTo axes t) (j : t.Idx) (q : α × β) :
    q ∈ Host.argReduceFiber x y h j ↔ ∃ i : s.Idx, h.drop i = j ∧ q = (x i, y i) := by
  rw [Host.argReduceFiber, List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]
      exact decide_eq_true hi
    · rw [Equiv.symm_apply_apply]

/-- The index half of an arg-min as a fold over the pairs that fall into one place. -/
theorem snd_fiber {β : Type} {s t u : Shape} {axes : List (Fin s.rank)} (f : Ideal .f32 × β → Ideal .f32 × β → Ideal .f32 × β)
    (x : FVec Ideal s .f32) (y : s.Idx → β) (ix : u.Idx → Ideal .f32) (iy : u.Idx → β) (h : s.ReducesTo axes t) (hu : 0 < u.numel)
    (g : t.Idx → β) (hg : g = fun j => (Host.argReduce f x y ix iy h hu j).2) (j : t.Idx) :
    g j = ((Host.argReduceFiber x y h j).foldl f (ix (Shape.Idx.first hu), iy (Shape.Idx.first hu))).2 := by
  subst hg
  show (Host.argReduce f x y ix iy h hu j).2 = _
  rw [Ideal.argReduce_eq_reduce2, Host.reduce2_eq_foldl_fiber]

theorem argminIdx_eq (d : FVec Ideal S16384x1024 .f32) (y : IVec S16384x1024 32) (u : FVec Ideal S_ .f32) (v : IVec S_ 32) :
    argminIdx (F := Ideal) d y u v
      = fun j => (Host.argReduce (reducer_argmin_f32_i32 (F := Ideal)) d y u v reducesTo_S16384x1024_S16384_d1 h_S_ j).2 := rfl

theorem codes_eq (d : FVec Ideal S16384x1024 .f32) (j : S16384.Idx) :
    codes (F := Ideal) d j
      = argminIdx (F := Ideal) d (iotaInDim S16384x1024 32 1) (constant (F := Ideal) S_ .f32 0x7F800000#32) (constantI S_ 32 0#32) j := by
  unfold codes
  with_reducible rfl

theorem iota_at (r : Fin 16384) (k : Fin 1024) : iotaInDim S16384x1024 32 1 (ix2 r k) = BitVec.ofNat 32 k.val := by
  pointwise

/-- A row's arg-min, whatever the starting pair's buffers: the first least distance. -/
theorem argmin_at (D : Fin 1024 → ℝ) (d : FVec Ideal S16384x1024 .f32) (r : Fin 16384) (hd : ∀ k, d (ix2 r k) = (D k : EReal)) :
    codes (F := Ideal) d (ix1 r) = BitVec.ofNat 32 (first D).val := by
  have h1 : codes (F := Ideal) d (ix1 r)
      = ((Host.argReduceFiber d (iotaInDim S16384x1024 32 1) reducesTo_S16384x1024_S16384_d1 (ix1 r)).foldl
          (reducer_argmin_f32_i32 (F := Ideal))
          (constant (F := Ideal) S_ .f32 0x7F800000#32 (Shape.Idx.first h_S_), constantI S_ 32 0#32 (Shape.Idx.first h_S_))).2 := by
    rw [codes_eq]
    exact snd_fiber (reducer_argmin_f32_i32 (F := Ideal)) d (iotaInDim S16384x1024 32 1)
      (constant (F := Ideal) S_ .f32 0x7F800000#32) (constantI S_ 32 0#32) reducesTo_S16384x1024_S16384_d1 h_S_ _ (argminIdx_eq _ _ _ _) (ix1 r)
  have h0 : (constant (F := Ideal) S_ .f32 0x7F800000#32 (Shape.Idx.first h_S_), constantI S_ 32 0#32 (Shape.Idx.first h_S_))
      = ((⊤ : EReal), 0#32) := Prod.ext const_inf rfl
  rw [h1, h0]
  refine foldl_first (by norm_num) D _ fun q => ?_
  rw [mem_fiber]
  constructor
  · rintro ⟨i, hi, rfl⟩
    rw [drop_row] at hi
    have ei : i = ix2 r (i 1) := by
      rw [← hi]
      exact eq_ix2 i
    rw [ei]
    exact ⟨i 1, Prod.ext (hd (i 1)) (iota_at r (i 1))⟩
  · rintro ⟨k, rfl⟩
    refine ⟨ix2 r k, (drop_row _ _ r).2 rfl, ?_⟩
    rw [hd, iota_at]

section Rows
variable (X : Fin 256 → ℝ) (E : Fin 1024 → Fin 256 → ℝ) (r : Fin 16384)
  (hX : ∀ d, x (ix2 r d) = (X d : EReal)) (hE : ∀ k d, e (ix2 k d) = (E k d : EReal))

include hX hE in
/-- A row's code. -/
theorem codes_at : codes (F := Ideal) (dist (d2 x e)) (ix1 r) = BitVec.ofNat 32 (first fun k => sqd X (E k)).val := by
  rw [argmin_at (fun k => Real.sqrt (sqd X (E k))) _ r, first_sqrt _ fun k => sqd_nonneg X (E k)]
  intro k
  rw [dist_at, d2_at]
  simp only [hX, hE, const_two]
  rw [sqd_host X (E k), sqrt_real _ (sqd_nonneg X (E k))]

end Rows

/-! ## The row a code names -/

theorem rowOf_at (k : IVec S16384 32) (r : Fin 16384) (c : Fin 1024) (h : k (ix1 r) = BitVec.ofNat 32 c.val) :
    rowOf k (ix2 (n1 := 1) r 0) = BitVec.ofNat 32 c.val := by
  have e : rowOf k (ix2 (n1 := 1) r 0)
      = Scalar.select (IntOp.cmpi .slt (k (ix1 r)) 0#32) (IntOp.addi (k (ix1 r)) 1024#32) (k (ix1 r)) := by
    pointwise [rowOf]
  rw [e, h]
  have hs : IntOp.cmpi .slt (BitVec.ofNat 32 c.val) 0#32 = 0#1 := by
    have : ∀ c : Fin 1024, IntOp.cmpi .slt (BitVec.ofNat 32 c.val) 0#32 = 0#1 := by decide +kernel
    exact this c
  rw [hs]
  rfl

theorem rowOk_at (p : IVec S16384x1 32) (r : Fin 16384) (c : Fin 1024) (h : p (ix2 (n1 := 1) r 0) = BitVec.ofNat 32 c.val) :
    rowOk p (ix1 r) = 1#1 := by
  have e : rowOk p (ix1 r) = Finset.fold IntOp.andi 1#1 (fun x : Fin 1 =>
      IntOp.andi (IntOp.cmpi .sge (p (ix2 r x)) 0#32) (IntOp.cmpi .sle (p (ix2 r x)) 1023#32)) Finset.univ := by
    pointwise [rowOk]
  rw [e, Finset.univ_unique, Finset.fold_singleton]
  have h' : p (ix2 r (default : Fin 1)) = BitVec.ofNat 32 c.val := h
  rw [h']
  have : ∀ c : Fin 1024, IntOp.andi (IntOp.andi (IntOp.cmpi .sge (BitVec.ofNat 32 c.val) 0#32) (IntOp.cmpi .sle (BitVec.ofNat 32 c.val) 1023#32)) 1#1 = 1#1 := by
    decide +kernel
  exact this c

/-- The rows taken out of the codebook, entry by entry. -/
theorem gather_at (p : IVec S16384x1 32) (r : Fin 16384) (d : Fin 256) (c : Fin 1024) (h : p (ix2 (n1 := 1) r 0) = BitVec.ofNat 32 c.val) :
    Host.gather gather_S1024x256_S16384x1_S16384x256_1_0_n_n_0_1_1256 e p (ix2 r d) = e (ix2 c d) := by
  unfold Host.gather
  congr 1
  funext a
  refine Fin.ext ?_
  show GatherDims.start _ _ _ a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x256_S16384x1_S16384x256_1_0_n_n_0_1_1256.startIndexMap from List.mem_singleton.mpr rfl)]
    have hsi : gather_S1024x256_S16384x1_S16384x256_1_0_n_n_0_1_1256.siIdx (ix2 r d)
        ⟨List.idxOf (0 : Fin 2) gather_S1024x256_S16384x1_S16384x256_1_0_n_n_0_1_1256.startIndexMap,
          List.idxOf_lt_length_iff.2 (List.mem_singleton.mpr rfl)⟩ = ix2 (n1 := 1) r 0 := by
      funext b
      refine Fin.ext ?_
      match b with
      | ⟨0, _⟩ => rfl
      | ⟨1, _⟩ => rfl
    rw [hsi, h]
    have hc : ∀ c : Fin 1024, min (BitVec.ofNat 32 c.val).toInt.toNat 1023 = c.val := by decide +kernel
    exact hc c
  · rw [GatherDims.batchCoord_eq_zero _ _ _ List.not_mem_nil]
    unfold GatherDims.start
    rw [dif_neg (show (1 : Fin 2) ∉ gather_S1024x256_S16384x1_S16384x256_1_0_n_n_0_1_1256.startIndexMap from by
      show (1 : Fin 2) ∉ ([0] : List (Fin 2)); decide)]
    simp only [Nat.zero_add]
    unfold GatherDims.offCoord
    rw [dif_pos (show (1 : Fin 2) ∈ gather_S1024x256_S16384x1_S16384x256_1_0_n_n_0_1_1256.sKept from
      (GatherDims.mem_sKept _ _).mpr ⟨by show (1 : Fin 2) ∉ ([0] : List (Fin 2)); decide, List.not_mem_nil⟩)]
    rfl

theorem taken_at (k : IVec S16384 32) (r : Fin 16384) (d : Fin 256) (c : Fin 1024) (h : k (ix1 r) = BitVec.ofNat 32 c.val) :
    taken (F := Ideal) e k (ix2 r d) = e (ix2 c d) := by
  have hp := rowOf_at k r c h
  have e1 : taken (F := Ideal) e k (ix2 r d)
      = Scalar.select (rowOk (rowOf k) (ix1 r))
          (Host.gather gather_S1024x256_S16384x1_S16384x256_1_0_n_n_0_1_1256 e (rowOf k) (ix2 r d))
          (constant (F := Ideal) S_ .f32 0x7FC00000#32 ix0) := by
    pointwise [taken]
  rw [e1, rowOk_at _ r c hp, gather_at e _ r d c hp]
  rfl

end Cert.ReferenceIdeal.Hand

end
-- ==== Proof.RefJoin.lean ====
/-
  The reference's two results, entry by entry, of their semantic and acoustic halves.
-/
module

public import proofs.«01_k».proof.Proof.RefStages
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem

theorem joinQ_at (p : FVec Ideal S16x256x1024 .f32) (q : FVec Ideal S16x32x1024 .f32) (b : Fin 16) (d : Fin 288) (t : Fin 1024) :
    joinQ (F := Ideal) p q (ix3 b d t)
      = if h : d.val < 256 then p (ix3 b ⟨d.val, h⟩ t) else q (ix3 b ⟨d.val - 256, by omega⟩ t) := by
  pointwise [joinQ]

theorem joinC_at (p : IVec S16x1x1024 32) (q : IVec S16x32x1024 32) (b : Fin 16) (d : Fin 33) (t : Fin 1024) :
    joinC p q (ix3 b d t)
      = if h : d.val < 1 then p (ix3 b ⟨d.val, h⟩ t) else q (ix3 b ⟨d.val - 1, by omega⟩ t) := by
  pointwise [joinC]

/-- The row of a frame of a batch entry. -/
def row (b : Fin 16) (t : Fin 1024) : Fin 16384 := ⟨b.val * 1024 + t.val, by omega⟩

theorem codes_grid (k : IVec S16384 32) (b : Fin 16) (z : Fin 1) (t : Fin 1024) :
    shapeCast S16x1x1024 k shapeCasts_S16384_S16x1x1024 (ix3 b z t) = k (ix1 (row b t)) := by
  unfold row
  pointwise

theorem quant_at (q : FVec Ideal S16384x256 .f32) (b : Fin 16) (d : Fin 256) (t : Fin 1024) :
    quant (F := Ideal) q (ix3 b d t) = q (ix2 (row b t) d) := by
  unfold row
  pointwise [quant]

theorem sem_at (x : FVec Ideal S16x288x1024 .f32) (b : Fin 16) (d : Fin 256) (t : Fin 1024) :
    sem (F := Ideal) x (ix3 b d t) = x (ix3 b ⟨d.val, by omega⟩ t) := by
  pointwise [sem]

theorem flat_at (x : FVec Ideal S16x288x1024 .f32) (b : Fin 16) (d : Fin 256) (t : Fin 1024) :
    flat (F := Ideal) x (ix2 (row b t) d) = x (ix3 b ⟨d.val, by omega⟩ t) := by
  have h : ∀ r : Fin 16384, flat (F := Ideal) x (ix2 r d)
      = x (ix3 ⟨r.val / 1024, by omega⟩ ⟨d.val, by omega⟩ ⟨r.val % 1024, by omega⟩) := by
    intro r
    pointwise [flat, sem]
  rw [h]
  have e1 : (⟨(row b t).val / 1024, by omega⟩ : Fin 16) = b := Fin.ext (by show (b.val * 1024 + t.val) / 1024 = b.val; omega)
  have e2 : (⟨(row b t).val % 1024, by omega⟩ : Fin 1024) = t := Fin.ext (by show (b.val * 1024 + t.val) % 1024 = t.val; omega)
  rw [e1, e2]

theorem semOut_at (w : IVec S16x1x1 1) (s q : FVec Ideal S16x256x1024 .f32) (b : Fin 16) (d : Fin 256) (t : Fin 1024) :
    semOut (F := Ideal) w s q (ix3 b d t)
      = Scalar.select (w (ix3 (n1 := 1) (n2 := 1) b 0 0)) (s (ix3 b d t) + (q (ix3 b d t) - s (ix3 b d t))) (s (ix3 b d t)) := by
  pointwise [semOut]

end Cert.ReferenceIdeal.Hand

end
-- ==== Proof.Acoustic.lean ====
/-
  The acoustic channels of the two programs, entry by entry: one function of the input's channel, the noise and the two
  mask bits.
-/
module

public import proofs.«01_k».proof.Proof.KIBlock
public import proofs.«01_k».proof.Proof.RefStages
public import Idealize.ShloMosaic.Lib.Pointwise
public import Idealize.ShloMosaic.PureOps.Ideal.Laws

@[expose] public section

noncomputable section

namespace Cert.Quant

open Idealize.ShloMosaic

/-- A bounded channel. -/
def bounded (x : EReal) : EReal := Ideal.tanh x * Ideal.ofBits .f32 1089470464#32

/-- A bounded channel rounded, dithered or left alone. -/
def dithered (p q : BitVec 1) (x n : EReal) : EReal :=
  Scalar.select p (bounded x + (Ideal.liftRound Ideal.roundHalfEven (bounded x) - bounded x))
    (Scalar.select q (min (Ideal.ofBits .f32 1089470464#32) (max (Ideal.ofBits .f32 3236954112#32) (bounded x + n))) (bounded x))

/-- The normalised channel. -/
def acoVal (p q : BitVec 1) (x n : EReal) : EReal := Ideal.div (dithered p q x n) (Ideal.ofBits .f32 1089470464#32)

/-- The code of a channel. -/
def acoCode (p q : BitVec 1) (x n : EReal) : BitVec 32 :=
  IntOp.minsi 15#32 (IntOp.maxsi 0#32 (Ideal.fptosi 32 (Ideal.liftRound Ideal.roundHalfEven
    (dithered p q x n + Ideal.ofBits .f32 1089470464#32))))

end Cert.Quant

namespace Cert.KernelIdeal.Hand

open Cert.KernelIdeal Cert.KernelIdeal.Gen Idealize.ShloMosaic Idealize.ShloMosaic.TcCoe Idealize.SL.Sem Cert.Quant

variable (v n : FVec Ideal S1x32x1024 .f32) (a b : BitVec 32) (d : Fin 32) (t : Fin 1024)

theorem aco_val_at :
    k0_pay17 (F := Ideal) (k0_pay9 v) n a b (ix3 (n0 := 1) 0 d t)
      = acoVal (IntOp.cmpi .ne a 0#32) (IntOp.cmpi .ne b 0#32) (v (ix3 (n0 := 1) 0 d t)) (n (ix3 (n0 := 1) 0 d t)) := by
  unfold acoVal dithered bounded
  pointwise [k0_pay17, k0_pay15, k0_pay9]
  rfl

theorem aco_code_at :
    k0_pay2 (k0_pay16 (F := Ideal) (k0_pay9 v) n a b) (ix3 (n0 := 1) 0 d t)
      = acoCode (IntOp.cmpi .ne a 0#32) (IntOp.cmpi .ne b 0#32) (v (ix3 (n0 := 1) 0 d t)) (n (ix3 (n0 := 1) 0 d t)) := by
  unfold acoCode dithered bounded
  pointwise [k0_pay2, k0_pay16, k0_pay15, k0_pay9]
  rfl

end Cert.KernelIdeal.Hand

namespace Cert.ReferenceIdeal.Hand

open Cert.ReferenceIdeal Cert.ReferenceIdeal.Gen Idealize.ShloMosaic Idealize.ShloMosaic.TcCoe Idealize.SL.Sem Cert.Quant

variable (x : FVec Ideal S16x288x1024 .f32) (n : FVec Ideal S16x32x1024 .f32) (w₁ w₂ : IVec S16x1x1 1)
  (b : Fin 16) (d : Fin 32) (t : Fin 1024)

theorem zout_at (z : FVec Ideal S16x32x1024 .f32) :
    zout (F := Ideal) w₁ w₂ z n (ix3 b d t)
      = Scalar.select (w₁ (ix3 (n1 := 1) (n2 := 1) b 0 0)) (z (ix3 b d t) + (Ideal.liftRound Ideal.roundHalfEven (z (ix3 b d t)) - z (ix3 b d t)))
          (Scalar.select (w₂ (ix3 (n1 := 1) (n2 := 1) b 0 0))
            (min (Ideal.ofBits .f32 1089470464#32) (max (Ideal.ofBits .f32 3236954112#32) (z (ix3 b d t) + n (ix3 b d t))))
            (z (ix3 b d t))) := by
  pointwise [zout]
  rfl

theorem zb_at : zb (F := Ideal) (aco x) (ix3 b d t) = bounded (x (ix3 b ⟨256 + d.val, by omega⟩ t)) := by
  unfold bounded
  pointwise [zb, aco]

theorem dithered_at :
    zout (F := Ideal) w₁ w₂ (zb (aco x)) n (ix3 b d t)
      = dithered (w₁ (ix3 (n1 := 1) (n2 := 1) b 0 0)) (w₂ (ix3 (n1 := 1) (n2 := 1) b 0 0))
          (x (ix3 b ⟨256 + d.val, by omega⟩ t)) (n (ix3 b d t)) := by
  rw [zout_at, zb_at]
  rfl

theorem znorm_at :
    znorm (F := Ideal) (zout w₁ w₂ (zb (aco x)) n) (ix3 b d t)
      = acoVal (w₁ (ix3 (n1 := 1) (n2 := 1) b 0 0)) (w₂ (ix3 (n1 := 1) (n2 := 1) b 0 0))
          (x (ix3 b ⟨256 + d.val, by omega⟩ t)) (n (ix3 b d t)) := by
  have h : ∀ z : FVec Ideal S16x32x1024 .f32, znorm (F := Ideal) z (ix3 b d t) = Ideal.div (z (ix3 b d t)) (Ideal.ofBits .f32 1089470464#32) := by
    intro z
    pointwise [znorm]
  rw [h, dithered_at]
  rfl

theorem acoCodes_at :
    acoCodes (F := Ideal) (zout w₁ w₂ (zb (aco x)) n) (ix3 b d t)
      = acoCode (w₁ (ix3 (n1 := 1) (n2 := 1) b 0 0)) (w₂ (ix3 (n1 := 1) (n2 := 1) b 0 0))
          (x (ix3 b ⟨256 + d.val, by omega⟩ t)) (n (ix3 b d t)) := by
  have h : ∀ z : FVec Ideal S16x32x1024 .f32, acoCodes (F := Ideal) z (ix3 b d t)
      = IntOp.minsi 15#32 (IntOp.maxsi 0#32 (Ideal.fptosi 32 (Ideal.liftRound Ideal.roundHalfEven
          (z (ix3 b d t) + Ideal.ofBits .f32 1089470464#32)))) := by
    intro z
    pointwise [acoCodes]
    rfl
  rw [h, dithered_at]
  rfl

end Cert.ReferenceIdeal.Hand

namespace Cert.Quant

open Idealize.ShloMosaic

/-! ## The mask tables of the two programs -/

theorem sem_off : ∀ b : Fin 16, KernelIdeal.lit0 (KernelIdeal.S16x3.rowMajor (ix2 b 0)) = 0#32 →
    ReferenceIdeal.Hand.semMask (ix3 (n1 := 1) (n2 := 1) b 0 0) = 0#1 := by
  decide +kernel

theorem sem_on : ∀ b : Fin 16, KernelIdeal.lit0 (KernelIdeal.S16x3.rowMajor (ix2 b 0)) ≠ 0#32 →
    ReferenceIdeal.Hand.semMask (ix3 (n1 := 1) (n2 := 1) b 0 0) = 1#1 := by
  decide +kernel

theorem quant_bit : ∀ b : Fin 16, IntOp.cmpi .ne (KernelIdeal.lit0 (KernelIdeal.S16x3.rowMajor (ix2 b 1))) 0#32
    = ReferenceIdeal.Hand.quantMask (ix3 (n1 := 1) (n2 := 1) b 0 0) := by
  decide +kernel

theorem dither_bit : ∀ b : Fin 16, IntOp.cmpi .ne (KernelIdeal.lit0 (KernelIdeal.S16x3.rowMajor (ix2 b 2))) 0#32
    = ReferenceIdeal.Hand.ditherMask (ix3 (n1 := 1) (n2 := 1) b 0 0) := by
  decide +kernel

end Cert.Quant

end
-- ==== Proof.Finite.lean ====
/-
  What the precondition says: the input's semantic channels and the codebook's sums are real numbers.
-/
module

public import proofs.«01_k».proof.Proof.Gen.Pre_finite
public import proofs.«01_k».proof.Proof.Distance
public import Idealize.ShloMosaic.Lib.ReduceAll
public import Idealize.ShloMosaic.Lib.Pointwise

@[expose] public section

noncomputable section

namespace Cert.Pre_finite.Hand

open Cert.Pre_finite Cert.Pre_finite.Gen Idealize.ShloMosaic Cert.Quant

/-- A value below +∞ in absolute value is a real. -/
theorem real_of_abs (x : EReal) (h : Ideal.cmp .olt (max x (-x)) (Ideal.ofBits .f32 0x7F800000#32) = 1#1) :
    ∃ r : ℝ, x = (r : EReal) := by
  rw [show Ideal.ofBits .f32 0x7F800000#32 = (⊤ : EReal) from const_inf] at h
  induction x using EReal.rec with
  | bot => simp [Ideal.cmp] at h
  | top => simp [Ideal.cmp] at h
  | coe r => exact ⟨r, rfl⟩

variable (x : FVec Ideal S16x288x1024 .f32) (es : FVec Ideal S1024x256 .f32) (cu : FVec Ideal S1024 .f32) (n : FVec Ideal S16x32x1024 .f32)

instance : Subsingleton S_.Idx := ⟨fun a b => funext fun i => i.elim0⟩

theorem parts (h : fn (F := Ideal) x es cu n = fun _ => 1#1) :
    (∀ i, cmpf .olt (Host.absf (extractStridedSlice S16x256x1024 ![0, 0, 0] x slices_S16x288x1024_S16x256x1024_0_0_0))
        (broadcastInDim S16x256x1024 ![] bcast_S_S16x256x1024 (constant (F := Ideal) S_ .f32 0x7F800000#32)) i = 1#1)
    ∧ ∀ i, cmpf .olt (Host.absf es) (broadcastInDim S1024x256 ![] bcast_S_S1024x256 (constant (F := Ideal) S_ .f32 0x7F800000#32)) i = 1#1 := by
  obtain ⟨h1, h2⟩ := IntOp.andi_eq_one.1 (congrFun h ix0)
  exact ⟨fun i => Host.reduce_andi_all _ _ _ _ _ h1 i, fun i => Host.reduce_andi_all _ _ _ _ _ h2 i⟩

theorem x_real (h : fn (F := Ideal) x es cu n = fun _ => 1#1) (b : Fin 16) (d : Fin 256) (t : Fin 1024) :
    ∃ r : ℝ, x (ix3 b ⟨d.val, by omega⟩ t) = (r : EReal) := by
  have hp := (parts x es cu n h).1 (ix3 b d t)
  have e : cmpf .olt (Host.absf (extractStridedSlice S16x256x1024 ![0, 0, 0] x slices_S16x288x1024_S16x256x1024_0_0_0))
        (broadcastInDim S16x256x1024 ![] bcast_S_S16x256x1024 (constant (F := Ideal) S_ .f32 0x7F800000#32)) (ix3 b d t)
      = Ideal.cmp .olt (max (x (ix3 b ⟨d.val, by omega⟩ t)) (-(x (ix3 b ⟨d.val, by omega⟩ t)))) (Ideal.ofBits .f32 0x7F800000#32) := by
    have e1 : extractStridedSlice S16x256x1024 ![0, 0, 0] x slices_S16x288x1024_S16x256x1024_0_0_0 (ix3 b d t)
        = x (ix3 b ⟨d.val, by omega⟩ t) := by pointwise
    rw [← e1]
    rfl
  exact real_of_abs _ (e.symm.trans hp)

theorem es_real (h : fn (F := Ideal) x es cu n = fun _ => 1#1) (k : Fin 1024) (d : Fin 256) :
    ∃ r : ℝ, es (ix2 k d) = (r : EReal) :=
  real_of_abs _ ((parts x es cu n h).2 (ix2 k d))

end Cert.Pre_finite.Hand

end
-- ==== Proof.Equal.lean ====
/-
  The kernel's two results are the reference's, entry by entry, from finite semantic channels and finite codebook sums.
-/
module

public import proofs.«01_k».proof.Proof.KIValue
public import proofs.«01_k».proof.Proof.KISem
public import proofs.«01_k».proof.Proof.RefSem
public import proofs.«01_k».proof.Proof.RefJoin
public import proofs.«01_k».proof.Proof.Acoustic
public import proofs.«01_k».proof.Proof.Finite

@[expose] public section

noncomputable section

namespace Cert.Quant

open Idealize.ShloMosaic Idealize.ShloMosaic.TcCoe
open Cert.KernelIdeal (nD τ sig cfg0 grid0 main_arg0 main_arg1 main_arg2 main_arg3)
open Cert.KernelIdeal.Gen (iblk)
open Cert.KernelIdeal.Hand (bat blockQ blockC dst dats)
open Cert.ReferenceIdeal.Hand (resQ resC emb semCodes row)

variable (m : (ℓ : Loc nD τ sig) → Buf (Elt Ideal) ℓ) (c : Dev nD)

/-- The four arguments. -/
abbrev argX : FVec Ideal ReferenceIdeal.S16x288x1024 .f32 := m ((c : Thread nD τ).loc main_arg0)
abbrev argE : FVec Ideal ReferenceIdeal.S1024x256 .f32 := m ((c : Thread nD τ).loc main_arg1)
abbrev argU : FVec Ideal ReferenceIdeal.S1024 .f32 := m ((c : Thread nD τ).loc main_arg2)
abbrev argN : FVec Ideal ReferenceIdeal.S16x32x1024 .f32 := m ((c : Thread nD τ).loc main_arg3)

section Reals
variable (X : Fin 16 → Fin 256 → Fin 1024 → ℝ) (E : Fin 1024 → Fin 256 → ℝ)

/-- The input's semantic channels are the reals `X`. -/
def IsX : Prop := ∀ b (d : Fin 256) t, argX m c (ix3 b ⟨d.val, by omega⟩ t) = (X b d t : EReal)
/-- The codebook is the reals `E`. -/
def IsE : Prop := ∀ k (d : Fin 256), Ideal.div (argE m c (ix2 k d)) (max (Ideal.ofBits .f32 925353388#32) (argU m c (ix1 k))) = (E k d : EReal)

variable (hX : IsX m c X) (hE : IsE m c E)

include hX in
theorem blockX (t : Fin cfg0.N) (d : Fin 256) (k : Fin 1024) :
    View.ld (iblk m c 0 t) KernelIdeal.Hand.rU (ix3 (n0 := 1) 0 d k) = (X (bat t) d k : EReal) := by
  rw [KernelIdeal.Hand.ldU, KernelIdeal.Hand.iblk0_at]
  exact hX (bat t) d k

include hE in
theorem blockE (t : Fin cfg0.N) (k : Fin 1024) (d : Fin 256) :
    Ideal.div ((iblk m c 3 t : FVec Ideal KernelIdeal.S1024x256 .f32) (ix2 k d))
      (max (Ideal.ofBits .f32 925353388#32) ((iblk m c 4 t : FVec Ideal KernelIdeal.S1024x1 .f32) (ix2 (n1 := 1) k 0))) = (E k d : EReal) := by
  rw [KernelIdeal.Hand.iblk3_at, KernelIdeal.Hand.iblk4_at]
  exact hE k d

include hX hE in
/-- The reference's semantic codes. -/
theorem codes_ref (b : Fin 16) (t : Fin 1024) :
    semCodes (F := Ideal) (argX m c) (argE m c) (argU m c) (ix1 (row b t)) = BitVec.ofNat 32 (first (dst (X b) E t)).val := by
  unfold semCodes
  exact ReferenceIdeal.Hand.codes_at _ _ (fun d => X b d t) E (row b t)
    (fun d => (ReferenceIdeal.Hand.flat_at _ b d t).trans (hX b d t))
    (fun k d => (ReferenceIdeal.Hand.emb_at _ _ k d).trans (hE k d))

include hX hE in
theorem semantic_eq (t : Fin cfg0.N) (d : Fin 288) (k : Fin 1024) (hd : d.val < 256) :
    blockQ (grid0.coords t) (iblk m c 0 t) (iblk m c 1 t) (iblk m c 2 t) (iblk m c 3 t) (iblk m c 4 t) (ix3 0 d k)
      = resQ (F := Ideal) (argX m c) (argE m c) (argU m c) (argN m c) (ix3 (bat t) d k) := by
  have hr : resQ (F := Ideal) (argX m c) (argE m c) (argU m c) (argN m c) (ix3 (bat t) d k)
      = Scalar.select (ReferenceIdeal.Hand.semMask (ix3 (n1 := 1) (n2 := 1) (bat t) 0 0))
          ((X (bat t) ⟨d.val, hd⟩ k : EReal) + ((E (first (dst (X (bat t)) E k)) ⟨d.val, hd⟩ : EReal) - (X (bat t) ⟨d.val, hd⟩ k : EReal)))
          (X (bat t) ⟨d.val, hd⟩ k : EReal) := by
    unfold resQ
    rw [ReferenceIdeal.Hand.joinQ_at, dif_pos hd, ReferenceIdeal.Hand.semOut_at, ReferenceIdeal.Hand.sem_at,
      ReferenceIdeal.Hand.quant_at, ReferenceIdeal.Hand.taken_at _ _ _ _ _ (codes_ref m c X E hX hE (bat t) k),
      ReferenceIdeal.Hand.emb_at, hE, hX (bat t) ⟨d.val, hd⟩ k]
  rw [hr, KernelIdeal.Hand.blockQ_upper _ _ _ _ _ _ d k hd]
  unfold KernelIdeal.Hand.upper
  rw [KernelIdeal.Hand.mw1_at]
  split_ifs with hw
  · rw [sem_off _ hw, KernelIdeal.Hand.pass_at, blockX m c X hX]
    rfl
  · rw [sem_on _ hw]
    exact KernelIdeal.Hand.decoded_at _ _ _ (X (bat t)) E (blockX m c X hX t) (blockE m c E hE t) ⟨d.val, hd⟩ k

include hX hE in
theorem code_eq (t : Fin cfg0.N) (d : Fin 33) (k : Fin 1024) (hd : d.val < 1) :
    blockC (grid0.coords t) (iblk m c 0 t) (iblk m c 1 t) (iblk m c 2 t) (iblk m c 3 t) (iblk m c 4 t) (ix3 0 d k)
      = resC (F := Ideal) (argX m c) (argE m c) (argU m c) (argN m c) (ix3 (bat t) d k) := by
  rw [KernelIdeal.Hand.blockC_head _ _ _ _ _ _ d k hd]
  refine (KernelIdeal.Hand.code_at _ _ _ (X (bat t)) E (blockX m c X hX t) (blockE m c E hE t) _ _ k).trans ?_
  unfold resC
  rw [ReferenceIdeal.Hand.joinC_at, dif_pos hd, ReferenceIdeal.Hand.codes_grid, codes_ref m c X E hX hE]

end Reals

theorem acoustic_eq (t : Fin cfg0.N) (d : Fin 288) (k : Fin 1024) (hd : ¬ d.val < 256) :
    blockQ (grid0.coords t) (iblk m c 0 t) (iblk m c 1 t) (iblk m c 2 t) (iblk m c 3 t) (iblk m c 4 t) (ix3 0 d k)
      = resQ (F := Ideal) (argX m c) (argE m c) (argU m c) (argN m c) (ix3 (bat t) d k) := by
  rw [KernelIdeal.Hand.blockQ_lower _ _ _ _ _ _ d k (by omega) hd]
  unfold KernelIdeal.Hand.lower resQ
  rw [KernelIdeal.Hand.aco_val_at, ReferenceIdeal.Hand.joinQ_at, dif_neg hd, ReferenceIdeal.Hand.znorm_at,
    KernelIdeal.Hand.mw2_at, KernelIdeal.Hand.mw3_at, quant_bit, dither_bit, KernelIdeal.Hand.ldL,
    KernelIdeal.Hand.iblk0_at, KernelIdeal.Hand.iblk1_at]

theorem acoustic_code_eq (t : Fin cfg0.N) (d : Fin 33) (k : Fin 1024) (hd : ¬ d.val < 1) :
    blockC (grid0.coords t) (iblk m c 0 t) (iblk m c 1 t) (iblk m c 2 t) (iblk m c 3 t) (iblk m c 4 t) (ix3 0 d k)
      = resC (F := Ideal) (argX m c) (argE m c) (argU m c) (argN m c) (ix3 (bat t) d k) := by
  rw [KernelIdeal.Hand.blockC_tail _ _ _ _ _ _ d k (by omega) hd]
  unfold resC
  rw [KernelIdeal.Hand.aco_code_at, ReferenceIdeal.Hand.joinC_at, dif_neg hd, ReferenceIdeal.Hand.acoCodes_at,
    KernelIdeal.Hand.mw2_at, KernelIdeal.Hand.mw3_at, quant_bit, dither_bit, KernelIdeal.Hand.ldL,
    KernelIdeal.Hand.iblk0_at, KernelIdeal.Hand.iblk1_at]

variable (h : Pre_finite.fn (F := Ideal) (argX m c) (argE m c) (argU m c) (argN m c) = fun _ => 1#1)

include h in
theorem reals : ∃ X E, IsX m c X ∧ IsE m c E := by
  obtain ⟨p, hp, ep⟩ := const_eps
  choose X hX using fun b d t => Pre_finite.Hand.x_real (argX m c) (argE m c) (argU m c) (argN m c) h b d t
  have he : ∀ k d, ∃ e : ℝ, Ideal.div (argE m c (ix2 k d)) (max (Ideal.ofBits .f32 925353388#32) (argU m c (ix1 k))) = (e : EReal) := by
    intro k d
    obtain ⟨r, hr⟩ := Pre_finite.Hand.es_real (argX m c) (argE m c) (argU m c) (argN m c) h k d
    rw [hr, ep]
    exact div_real r p hp _
  choose E hE using he
  exact ⟨X, E, hX, hE⟩

include h in
/-- The first result. -/
theorem results_q : (dats m 0 c).arrAt 5 cfg0.N = resQ (F := Ideal) (argX m c) (argE m c) (argU m c) (argN m c) := by
  obtain ⟨X, E, hX, hE⟩ := reals m c h
  refine KernelIdeal.Hand.final5 m c _ fun t d k => ?_
  by_cases hd : d.val < 256
  · exact semantic_eq m c X E hX hE t d k hd
  · exact acoustic_eq m c t d k hd

include h in
/-- The second result. -/
theorem results_c : (dats m 0 c).arrAt 6 cfg0.N = resC (F := Ideal) (argX m c) (argE m c) (argU m c) (argN m c) := by
  obtain ⟨X, E, hX, hE⟩ := reals m c h
  refine KernelIdeal.Hand.final6 m c _ fun t d k => ?_
  by_cases hd : d.val < 1
  · exact code_eq m c X E hX hE t d k hd
  · exact acoustic_code_eq m c t d k hd

end Cert.Quant

end
-- ==== Proof.lean ====
/-
  The claims of this certificate: the two kernel programs and the reference run, leave their arguments and end with every
  counter at zero, and from finite semantic channels and codebook sums the kernel's two results are the reference's.
-/
module

public import proofs.«01_k».proof.Defs
public import proofs.«01_k».proof.Proof.KFrame
public import proofs.«01_k».proof.Proof.KIFrame
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite.Gen.facts

theorem equal : algebraic_KernelIdeal_ReferenceIdeal_pre_finite := by
  intro m g m' g' hp ha
  refine ⟨fun c => ReferenceIdeal.Hand.resQ (F := Ideal) (Quant.argX m c) (Quant.argE m c) (Quant.argU m c) (Quant.argN m c),
    fun c => ReferenceIdeal.Hand.resC (F := Ideal) (Quant.argX m c) (Quant.argE m c) (Quant.argU m c) (Quant.argN m c), ?_, ?_⟩
  · refine (θ_run _ _ _).mono (fun r h c => ?_) (θ_run_and (KernelIdeal.Hand.run_main m g) (KernelIdeal.Hand.frame m g))
    exact ⟨(KernelIdeal.Hand.post5 m r h.1 c).trans (Quant.results_q m c (hp c)),
      (KernelIdeal.Hand.post6 m r h.1 c).trans (Quant.results_c m c (hp c)), h.2.1 c⟩
  · refine (θ_run _ _ _).mono (fun r h c => ?_) (ReferenceIdeal.Hand.run m' g')
    obtain ⟨h1, h2, h3⟩ := h c
    obtain ⟨a0, a1, a2, a3⟩ := ha c
    rw [a0, a1, a2, a3] at h1 h2
    exact ⟨h1, h2, h3⟩

theorem claim : Cert.Claim := ⟨Cert.Kernel.Gen.facts, Cert.KernelIdeal.Gen.facts, Cert.ReferenceIdeal.Gen.facts, Cert.Pre_finite.Gen.facts,
  fun m g _ => Kernel.Hand.frame m g, fun m g _ => KernelIdeal.Hand.frame m g, fun m g _ => KernelIdeal.Hand.frame m g,
  fun m g _ => ReferenceIdeal.Hand.frame m g, fun m g _ => ReferenceIdeal.Hand.frame m g, trivial, equal⟩

end Cert.Proof

end
